-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v244) = v0 c
          ∧ r.2.mem ((c.tc : Thread Cert.ReferenceIdeal.nD Cert.ReferenceIdeal.τ).loc Cert.ReferenceIdeal.main_v245) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x1536 : Shape := ⟨3, ![6, 256, 1536]⟩
abbrev S48x496 : Shape := ⟨2, ![48, 496]⟩
abbrev S8960x768 : Shape := ⟨2, ![8960, 768]⟩
abbrev S8960x24 : Shape := ⟨2, ![8960, 24]⟩
abbrev S840 : Shape := ⟨1, ![840]⟩
abbrev S8960 : Shape := ⟨1, ![8960]⟩
abbrev S1536x1536 : Shape := ⟨2, ![1536, 1536]⟩
abbrev S1x8960 : Shape := ⟨2, ![1, 8960]⟩
abbrev S1536x8960 : Shape := ⟨2, ![1536, 8960]⟩
abbrev S1536x32 : Shape := ⟨2, ![1536, 32]⟩
abbrev S1280x768 : Shape := ⟨2, ![1280, 768]⟩
abbrev S1280x24 : Shape := ⟨2, ![1280, 24]⟩
abbrev S1x1280 : Shape := ⟨2, ![1, 1280]⟩
abbrev S1536x1280 : Shape := ⟨2, ![1536, 1280]⟩
abbrev S1792x128 : Shape := ⟨2, ![1792, 128]⟩
abbrev S256x1536 : Shape := ⟨2, ![256, 1536]⟩
abbrev S48x16 : Shape := ⟨2, ![48, 16]⟩
abbrev S48x512 : Shape := ⟨2, ![48, 512]⟩
abbrev S48x128 : Shape := ⟨2, ![48, 128]⟩
abbrev S48x128x1 : Shape := ⟨3, ![48, 128, 1]⟩
abbrev S32x128 : Shape := ⟨2, ![32, 128]⟩
abbrev S32x256 : Shape := ⟨2, ![32, 256]⟩
abbrev S256x256 : Shape := ⟨2, ![256, 256]⟩
abbrev S32x32 : Shape := ⟨2, ![32, 32]⟩
abbrev S32x128x1 : Shape := ⟨3, ![32, 128, 1]⟩
abbrev S1536x256 : Shape := ⟨2, ![1536, 256]⟩
abbrev S1536x128 : Shape := ⟨2, ![1536, 128]⟩
abbrev S1 : Shape := ⟨1, ![1]⟩
abbrev S32x24 : Shape := ⟨2, ![32, 24]⟩
abbrev S32x104 : Shape := ⟨2, ![32, 104]⟩
abbrev S1x256 : Shape := ⟨2, ![1, 256]⟩

abbrev nBuf : Space → Nat
  | .hbm => 11
  | .vmem => 18
  | .smem => 2
  | _ => 0

abbrev bufTy : (tb : Table) → Fin (tcTables nBuf tb) → BufTy
  | .hbm, ⟨0, _⟩ => ⟨S6x256x1536, .bf16⟩
  | .hbm, ⟨1, _⟩ => ⟨S48x496, .f32⟩
  | .hbm, ⟨2, _⟩ => ⟨S8960x768, .i8⟩
  | .hbm, ⟨3, _⟩ => ⟨S8960x24, .i8⟩
  | .hbm, ⟨4, _⟩ => ⟨S840, .f32⟩
  | .hbm, ⟨5, _⟩ => ⟨S840, .f32⟩
  | .hbm, ⟨6, _⟩ => ⟨S8960, .f32⟩
  | .hbm, ⟨7, _⟩ => ⟨S1536x1536, .bf16⟩
  | .hbm, ⟨8, _⟩ => ⟨S1x8960, .f32⟩
  | .hbm, ⟨9, _⟩ => ⟨S1536x8960, .bf16⟩
  | .hbm, ⟨10, _⟩ => ⟨S1536x32, .bf16⟩
  | .local _ .vmem, ⟨0, _⟩ => ⟨S1536x1536, .bf16⟩
  | .local _ .vmem, ⟨1, _⟩ => ⟨S48x496, .f32⟩
  | .local _ .vmem, ⟨2, _⟩ => ⟨S1280x768, .i8⟩
  | .local _ .vmem, ⟨3, _⟩ => ⟨S1280x768, .i8⟩
  | .local _ .vmem, ⟨4, _⟩ => ⟨S1280x24, .i8⟩
  | .local _ .vmem, ⟨5, _⟩ => ⟨S1280x24, .i8⟩
  | .local _ .vmem, ⟨6, _⟩ => ⟨S1x1280, .f32⟩
  | .local _ .vmem, ⟨7, _⟩ => ⟨S1x1280, .f32⟩
  | .local _ .vmem, ⟨8, _⟩ => ⟨S1536x1280, .bf16⟩
  | .local _ .vmem, ⟨9, _⟩ => ⟨S1536x1280, .bf16⟩
  | .local _ .vmem, ⟨10, _⟩ => ⟨S1536x32, .bf16⟩
  | .local _ .vmem, ⟨11, _⟩ => ⟨S1536x1536, .bf16⟩
  | .local _ .vmem, ⟨12, _⟩ => ⟨S1792x128, .f32⟩
  | .local _ .vmem, ⟨13, _⟩ => ⟨S256x1536, .bf16⟩
  | .local _ .vmem, ⟨14, _⟩ => ⟨S256x1536, .bf16⟩
  | .local _ .vmem, ⟨15, _⟩ => ⟨S256x1536, .bf16⟩
  | .local _ .vmem, ⟨16, _⟩ => ⟨S256x1536, .bf16⟩
  | .local _ .vmem, ⟨17, _⟩ => ⟨S256x1536, .bf16⟩
  | .local _ .smem, ⟨0, _⟩ => ⟨S840, .f32⟩
  | .local _ .smem, ⟨1, _⟩ => ⟨S840, .f32⟩
  | _, _ => ⟨S6x256x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![7], ![false]⟩

def k0_off1 (i : grid0.Coords) (c0_i32_18 : BitVec 32) : Fin 1 → Nat :=
  let c3_i32_19 : BitVec 32 := 3#32
  let arg0 : BitVec 32 := BitVec.ofNat 32 (i 0).val
  let c40_i32 : BitVec 32 := 40#32
  let v79 : BitVec 32 := Scalar.muli arg0 c40_i32
  let v80 : BitVec 32 := Scalar.addi v79 c0_i32_18
  let v81 : BitVec 32 := Scalar.muli c3_i32_19 v80
  let v82 : Index := Scalar.indexCast v81
  ![v82.toNat]
def k0_off2 (i : grid0.Coords) (c0_i32_18 : BitVec 32) (c1_i32_20 : BitVec 32) : Fin 1 → Nat :=
  let c3_i32_19 : BitVec 32 := 3#32
  let arg0 : BitVec 32 := BitVec.ofNat 32 (i 0).val
  let c40_i32 : BitVec 32 := 40#32
  let v79 : BitVec 32 := Scalar.muli arg0 c40_i32
  let v80 : BitVec 32 := Scalar.addi v79 c0_i32_18
  let v81 : BitVec 32 := Scalar.muli c3_i32_19 v80
  let v84 : BitVec 32 := Scalar.addi v81 c1_i32_20
  let v85 : Index := Scalar.indexCast v84
  ![v85.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S48x496 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1280x24 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S840 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S840 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1536x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1536x32 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S6x256x1536 : Shape := ⟨3, ![6, 256, 1536]⟩
abbrev S48x496 : Shape := ⟨2, ![48, 496]⟩
abbrev S8960x768 : Shape := ⟨2, ![8960, 768]⟩
abbrev S8960x24 : Shape := ⟨2, ![8960, 24]⟩
abbrev S840 : Shape := ⟨1, ![840]⟩
abbrev S8960 : Shape := ⟨1, ![8960]⟩
abbrev S48x31 : Shape := ⟨2, ![48, 31]⟩
abbrev S_ : Shape := ⟨0, ![]⟩
abbrev S48x1 : Shape := ⟨2, ![48, 1]⟩
abbrev S48x32 : Shape := ⟨2, ![48, 32]⟩
abbrev S48x30 : Shape := ⟨2, ![48, 30]⟩
abbrev S48x2 : Shape := ⟨2, ![48, 2]⟩
abbrev S48x29 : Shape := ⟨2, ![48, 29]⟩
abbrev S48x3 : Shape := ⟨2, ![48, 3]⟩
abbrev S48x28 : Shape := ⟨2, ![48, 28]⟩
abbrev S48x4 : Shape := ⟨2, ![48, 4]⟩
abbrev S48x27 : Shape := ⟨2, ![48, 27]⟩
abbrev S48x5 : Shape := ⟨2, ![48, 5]⟩
abbrev S48x26 : Shape := ⟨2, ![48, 26]⟩
abbrev S48x6 : Shape := ⟨2, ![48, 6]⟩
abbrev S48x25 : Shape := ⟨2, ![48, 25]⟩
abbrev S48x7 : Shape := ⟨2, ![48, 7]⟩
abbrev S48x24 : Shape := ⟨2, ![48, 24]⟩
abbrev S48x8 : Shape := ⟨2, ![48, 8]⟩
abbrev S48x23 : Shape := ⟨2, ![48, 23]⟩
abbrev S48x9 : Shape := ⟨2, ![48, 9]⟩
abbrev S48x22 : Shape := ⟨2, ![48, 22]⟩
abbrev S48x10 : Shape := ⟨2, ![48, 10]⟩
abbrev S48x21 : Shape := ⟨2, ![48, 21]⟩
abbrev S48x11 : Shape := ⟨2, ![48, 11]⟩
abbrev S48x20 : Shape := ⟨2, ![48, 20]⟩
abbrev S48x12 : Shape := ⟨2, ![48, 12]⟩
abbrev S48x19 : Shape := ⟨2, ![48, 19]⟩
abbrev S48x13 : Shape := ⟨2, ![48, 13]⟩
abbrev S48x18 : Shape := ⟨2, ![48, 18]⟩
abbrev S48x14 : Shape := ⟨2, ![48, 14]⟩
abbrev S48x17 : Shape := ⟨2, ![48, 17]⟩
abbrev S48x15 : Shape := ⟨2, ![48, 15]⟩
abbrev S48x16 : Shape := ⟨2, ![48, 16]⟩
abbrev S48x1x32 : Shape := ⟨3, ![48, 1, 32]⟩
abbrev S48x16x32 : Shape := ⟨3, ![48, 16, 32]⟩
abbrev S48x32x32 : Shape := ⟨3, ![48, 32, 32]⟩
abbrev S6x256x48x32 : Shape := ⟨4, ![6, 256, 48, 32]⟩
abbrev S48x32x6x256 : Shape := ⟨4, ![48, 32, 6, 256]⟩
abbrev S6x256x24x32x2 : Shape := ⟨5, ![6, 256, 24, 32, 2]⟩
abbrev S840x256 : Shape := ⟨2, ![840, 256]⟩
abbrev S840x1 : Shape := ⟨2, ![840, 1]⟩
abbrev S8960x24x32 : Shape := ⟨3, ![8960, 24, 32]⟩
abbrev S8960x24x1 : Shape := ⟨3, ![8960, 24, 1]⟩
abbrev S6x256x24x32x1 : Shape := ⟨5, ![6, 256, 24, 32, 1]⟩
abbrev S6x256x24x32 : Shape := ⟨4, ![6, 256, 24, 32]⟩
abbrev S6x256x8960 : Shape := ⟨3, ![6, 256, 8960]⟩
abbrev S1x1x8960 : Shape := ⟨3, ![1, 1, 8960]⟩
abbrev S1536x8960 : Shape := ⟨2, ![1536, 8960]⟩
abbrev S1536x32 : Shape := ⟨2, ![1536, 32]⟩

abbrev nBuf : Space → Nat
  | .hbm => 368
  | .vmem => 0
  | .smem => 0
  | _ => 0

abbrev hbmTy0_0 (i : Nat) : BufTy := match i % 128 with
  | 0 => ⟨S6x256x1536, .bf16⟩
  | 1 => ⟨S48x496, .f32⟩
  | 2 => ⟨S8960x768, .i8⟩
  | 3 => ⟨S8960x24, .i8⟩
  | 4 => ⟨S840, .f32⟩
  | 5 => ⟨S840, .f32⟩
  | 6 => ⟨S8960, .f32⟩
  | 7 => ⟨S48x31, .f32⟩
  | 8 => ⟨S_, .f32⟩
  | 9 => ⟨S48x1, .f32⟩
  | 10 => ⟨S48x32, .f32⟩
  | 11 => ⟨S48x30, .f32⟩
  | 12 => ⟨S_, .f32⟩
  | 13 => ⟨S48x2, .f32⟩
  | 14 => ⟨S48x32, .f32⟩
  | 15 => ⟨S48x29, .f32⟩
  | 16 => ⟨S_, .f32⟩
  | 17 => ⟨S48x3, .f32⟩
  | 18 => ⟨S48x32, .f32⟩
  | 19 => ⟨S48x28, .f32⟩
  | 20 => ⟨S_, .f32⟩
  | 21 => ⟨S48x4, .f32⟩
  | 22 => ⟨S48x32, .f32⟩
  | 23 => ⟨S48x27, .f32⟩
  | 24 => ⟨S_, .f32⟩
  | 25 => ⟨S48x5, .f32⟩
  | 26 => ⟨S48x32, .f32⟩
  | 27 => ⟨S48x26, .f32⟩
  | 28 => ⟨S_, .f32⟩
  | 29 => ⟨S48x6, .f32⟩
  | 30 => ⟨S48x32, .f32⟩
  | 31 => ⟨S48x25, .f32⟩
  | 32 => ⟨S_, .f32⟩
  | 33 => ⟨S48x7, .f32⟩
  | 34 => ⟨S48x32, .f32⟩
  | 35 => ⟨S48x24, .f32⟩
  | 36 => ⟨S_, .f32⟩
  | 37 => ⟨S48x8, .f32⟩
  | 38 => ⟨S48x32, .f32⟩
  | 39 => ⟨S48x23, .f32⟩
  | 40 => ⟨S_, .f32⟩
  | 41 => ⟨S48x9, .f32⟩
  | 42 => ⟨S48x32, .f32⟩
  | 43 => ⟨S48x22, .f32⟩
  | 44 => ⟨S_, .f32⟩
  | 45 => ⟨S48x10, .f32⟩
  | 46 => ⟨S48x32, .f32⟩
  | 47 => ⟨S48x21, .f32⟩
  | 48 => ⟨S_, .f32⟩
  | 49 => ⟨S48x11, .f32⟩
  | 50 => ⟨S48x32, .f32⟩
  | 51 => ⟨S48x20, .f32⟩
  | 52 => ⟨S_, .f32⟩
  | 53 => ⟨S48x12, .f32⟩
  | 54 => ⟨S48x32, .f32⟩
  | 55 => ⟨S48x19, .f32⟩
  | 56 => ⟨S_, .f32⟩
  | 57 => ⟨S48x13, .f32⟩
  | 58 => ⟨S48x32, .f32⟩
  | 59 => ⟨S48x18, .f32⟩
  | 60 => ⟨S_, .f32⟩
  | 61 => ⟨S48x14, .f32⟩
  | 62 => ⟨S48x32, .f32⟩
  | 63 => ⟨S48x17, .f32⟩
  | 64 => ⟨S_, .f32⟩
  | 65 => ⟨S48x15, .f32⟩
  | 66 => ⟨S48x32, .f32⟩
  | 67 => ⟨S48x16, .f32⟩
  | 68 => ⟨S_, .f32⟩
  | 69 => ⟨S48x16, .f32⟩
  | 70 => ⟨S48x32, .f32⟩
  | 71 => ⟨S48x15, .f32⟩
  | 72 => ⟨S_, .f32⟩
  | 73 => ⟨S48x17, .f32⟩
  | 74 => ⟨S48x32, .f32⟩
  | 75 => ⟨S48x14, .f32⟩
  | 76 => ⟨S_, .f32⟩
  | 77 => ⟨S48x18, .f32⟩
  | 78 => ⟨S48x32, .f32⟩
  | 79 => ⟨S48x13, .f32⟩
  | 80 => ⟨S_, .f32⟩
  | 81 => ⟨S48x19, .f32⟩
  | 82 => ⟨S48x32, .f32⟩
  | 83 => ⟨S48x12, .f32⟩
  | 84 => ⟨S_, .f32⟩
  | 85 => ⟨S48x20, .f32⟩
  | 86 => ⟨S48x32, .f32⟩
  | 87 => ⟨S48x11, .f32⟩
  | 88 => ⟨S_, .f32⟩
  | 89 => ⟨S48x21, .f32⟩
  | 90 => ⟨S48x32, .f32⟩
  | 91 => ⟨S48x10, .f32⟩
  | 92 => ⟨S_, .f32⟩
  | 93 => ⟨S48x22, .f32⟩
  | 94 => ⟨S48x32, .f32⟩
  | 95 => ⟨S48x9, .f32⟩
  | 96 => ⟨S_, .f32⟩
  | 97 => ⟨S48x23, .f32⟩
  | 98 => ⟨S48x32, .f32⟩
  | 99 => ⟨S48x8, .f32⟩
  | 100 => ⟨S_, .f32⟩
  | 101 => ⟨S48x24, .f32⟩
  | 102 => ⟨S48x32, .f32⟩
  | 103 => ⟨S48x7, .f32⟩
  | 104 => ⟨S_, .f32⟩
  | 105 => ⟨S48x25, .f32⟩
  | 106 => ⟨S48x32, .f32⟩
  | 107 => ⟨S48x6, .f32⟩
  | 108 => ⟨S_, .f32⟩
  | 109 => ⟨S48x26, .f32⟩
  | 110 => ⟨S48x32, .f32⟩
  | 111 => ⟨S48x5, .f32⟩
  | 112 => ⟨S_, .f32⟩
  | 113 => ⟨S48x27, .f32⟩
  | 114 => ⟨S48x32, .f32⟩
  | 115 => ⟨S48x4, .f32⟩
  | 116 => ⟨S_, .f32⟩
  | 117 => ⟨S48x28, .f32⟩
  | 118 => ⟨S48x32, .f32⟩
  | 119 => ⟨S48x3, .f32⟩
  | 120 => ⟨S_, .f32⟩
  | 121 => ⟨S48x29, .f32⟩
  | 122 => ⟨S48x32, .f32⟩
  | 123 => ⟨S48x2, .f32⟩
  | 124 => ⟨S_, .f32⟩
  | 125 => ⟨S48x30, .f32⟩
  | 126 => ⟨S48x32, .f32⟩
  | 127 => ⟨S48x1, .f32⟩
  | _ => ⟨S6x256x1536, .bf16⟩

abbrev hbmTy0_1 (i : Nat) : BufTy := match i % 128 with
  | 0 => ⟨S_, .f32⟩
  | 1 => ⟨S48x31, .f32⟩
  | 2 => ⟨S48x32, .f32⟩
  | 3 => ⟨S_, .f32⟩
  | 4 => ⟨S48x32, .f32⟩
  | 5 => ⟨S48x1x32, .f32⟩
  | 6 => ⟨S48x1x32, .f32⟩
  | 7 => ⟨S48x1x32, .f32⟩
  | 8 => ⟨S48x1x32, .f32⟩
  | 9 => ⟨S48x1x32, .f32⟩
  | 10 => ⟨S48x1x32, .f32⟩
  | 11 => ⟨S48x1x32, .f32⟩
  | 12 => ⟨S48x1x32, .f32⟩
  | 13 => ⟨S48x1x32, .f32⟩
  | 14 => ⟨S48x1x32, .f32⟩
  | 15 => ⟨S48x1x32, .f32⟩
  | 16 => ⟨S48x1x32, .f32⟩
  | 17 => ⟨S48x1x32, .f32⟩
  | 18 => ⟨S48x1x32, .f32⟩
  | 19 => ⟨S48x1x32, .f32⟩
  | 20 => ⟨S48x1x32, .f32⟩
  | 21 => ⟨S48x1x32, .f32⟩
  | 22 => ⟨S48x1x32, .f32⟩
  | 23 => ⟨S48x1x32, .f32⟩
  | 24 => ⟨S48x1x32, .f32⟩
  | 25 => ⟨S48x1x32, .f32⟩
  | 26 => ⟨S48x1x32, .f32⟩
  | 27 => ⟨S48x1x32, .f32⟩
  | 28 => ⟨S48x1x32, .f32⟩
  | 29 => ⟨S48x1x32, .f32⟩
  | 30 => ⟨S48x1x32, .f32⟩
  | 31 => ⟨S48x1x32, .f32⟩
  | 32 => ⟨S48x1x32, .f32⟩
  | 33 => ⟨S48x1x32, .f32⟩
  | 34 => ⟨S48x1x32, .f32⟩
  | 35 => ⟨S48x1x32, .f32⟩
  | 36 => ⟨S48x1x32, .f32⟩
  | 37 => ⟨S48x16x32, .f32⟩
  | 38 => ⟨S48x16x32, .f32⟩
  | 39 => ⟨S48x32x32, .f32⟩
  | 40 => ⟨S48x32x32, .f32⟩
  | 41 => ⟨S48x32x32, .f32⟩
  | 42 => ⟨S48x32x32, .f32⟩
  | 43 => ⟨S48x32x32, .f32⟩
  | 44 => ⟨S48x32x32, .f32⟩
  | 45 => ⟨S48x32x32, .f32⟩
  | 46 => ⟨S48x32x32, .f32⟩
  | 47 => ⟨S48x32x32, .f32⟩
  | 48 => ⟨S_, .f32⟩
  | 49 => ⟨S48x32x32, .f32⟩
  | 50 => ⟨S48x32x32, .f32⟩
  | 51 => ⟨S48x32x32, .bf16⟩
  | 52 => ⟨S6x256x48x32, .bf16⟩
  | 53 => ⟨S48x32x6x256, .f32⟩
  | 54 => ⟨S6x256x48x32, .f32⟩
  | 55 => ⟨S6x256x48x32, .f32⟩
  | 56 => ⟨S6x256x48x32, .f32⟩
  | 57 => ⟨S6x256x48x32, .bf16⟩
  | 58 => ⟨S6x256x24x32x2, .bf16⟩
  | 59 => ⟨S840x256, .i8⟩
  | 60 => ⟨S840x256, .i32⟩
  | 61 => ⟨S840x256, .f32⟩
  | 62 => ⟨S840x1, .f32⟩
  | 63 => ⟨S840x256, .f32⟩
  | 64 => ⟨S840x256, .f32⟩
  | 65 => ⟨S840x1, .f32⟩
  | 66 => ⟨S840x256, .f32⟩
  | 67 => ⟨S840x256, .f32⟩
  | 68 => ⟨S8960x24, .f32⟩
  | 69 => ⟨S8960x768, .i32⟩
  | 70 => ⟨S8960x24x32, .i32⟩
  | 71 => ⟨S_, .i32⟩
  | 72 => ⟨S8960x24x32, .i32⟩
  | 73 => ⟨S8960x24x32, .i32⟩
  | 74 => ⟨S_, .i32⟩
  | 75 => ⟨S8960x24x32, .i32⟩
  | 76 => ⟨S8960x24x32, .i32⟩
  | 77 => ⟨S_, .i32⟩
  | 78 => ⟨S8960x24x32, .i32⟩
  | 79 => ⟨S8960x24x32, .i32⟩
  | 80 => ⟨S_, .i32⟩
  | 81 => ⟨S8960x24x32, .i32⟩
  | 82 => ⟨S8960x24x32, .i1⟩
  | 83 => ⟨S_, .i32⟩
  | 84 => ⟨S8960x24x32, .i32⟩
  | 85 => ⟨S8960x24x32, .i32⟩
  | 86 => ⟨S_, .i32⟩
  | 87 => ⟨S8960x24x32, .i32⟩
  | 88 => ⟨S8960x24x32, .i1⟩
  | 89 => ⟨S_, .i32⟩
  | 90 => ⟨S8960x24x32, .i32⟩
  | 91 => ⟨S8960x24x32, .i32⟩
  | 92 => ⟨S_, .i32⟩
  | 93 => ⟨S8960x24x32, .i32⟩
  | 94 => ⟨S8960x24x32, .i1⟩
  | 95 => ⟨S_, .i32⟩
  | 96 => ⟨S8960x24x32, .i32⟩
  | 97 => ⟨S8960x24x32, .i32⟩
  | 98 => ⟨S_, .i32⟩
  | 99 => ⟨S8960x24x32, .i32⟩
  | 100 => ⟨S8960x24x32, .i1⟩
  | 101 => ⟨S_, .f32⟩
  | 102 => ⟨S_, .f32⟩
  | 103 => ⟨S8960x24x32, .f32⟩
  | 104 => ⟨S8960x24x32, .f32⟩
  | 105 => ⟨S8960x24x32, .f32⟩
  | 106 => ⟨S_, .f32⟩
  | 107 => ⟨S_, .f32⟩
  | 108 => ⟨S8960x24x32, .f32⟩
  | 109 => ⟨S8960x24x32, .f32⟩
  | 110 => ⟨S8960x24x32, .f32⟩
  | 111 => ⟨S8960x24x32, .f32⟩
  | 112 => ⟨S_, .f32⟩
  | 113 => ⟨S_, .f32⟩
  | 114 => ⟨S8960x24x32, .f32⟩
  | 115 => ⟨S8960x24x32, .f32⟩
  | 116 => ⟨S8960x24x32, .f32⟩
  | 117 => ⟨S_, .f32⟩
  | 118 => ⟨S_, .f32⟩
  | 119 => ⟨S8960x24x32, .f32⟩
  | 120 => ⟨S8960x24x32, .f32⟩
  | 121 => ⟨S8960x24x32, .f32⟩
  | 122 => ⟨S8960x24x32, .f32⟩
  | 123 => ⟨S8960x24x32, .f32⟩
  | 124 => ⟨S_, .f32⟩
  | 125 => ⟨S_, .f32⟩
  | 126 => ⟨S8960x24x32, .f32⟩
  | 127 => ⟨S8960x24x32, .f32⟩
  | _ => ⟨S6x256x1536, .bf16⟩

abbrev hbmTy0_2 (i : Nat) : BufTy := match i % 128 with
  | 0 => ⟨S8960x24x32, .f32⟩
  | 1 => ⟨S_, .f32⟩
  | 2 => ⟨S_, .f32⟩
  | 3 => ⟨S8960x24x32, .f32⟩
  | 4 => ⟨S8960x24x32, .f32⟩
  | 5 => ⟨S8960x24x32, .f32⟩
  | 6 => ⟨S8960x24x32, .f32⟩
  | 7 => ⟨S_, .f32⟩
  | 8 => ⟨S_, .f32⟩
  | 9 => ⟨S8960x24x32, .f32⟩
  | 10 => ⟨S8960x24x32, .f32⟩
  | 11 => ⟨S8960x24x32, .f32⟩
  | 12 => ⟨S_, .f32⟩
  | 13 => ⟨S_, .f32⟩
  | 14 => ⟨S8960x24x32, .f32⟩
  | 15 => ⟨S8960x24x32, .f32⟩
  | 16 => ⟨S8960x24x32, .f32⟩
  | 17 => ⟨S8960x24x32, .f32⟩
  | 18 => ⟨S8960x24x32, .f32⟩
  | 19 => ⟨S8960x24x32, .f32⟩
  | 20 => ⟨S8960x24x1, .f32⟩
  | 21 => ⟨S8960x24x32, .f32⟩
  | 22 => ⟨S8960x24x32, .f32⟩
  | 23 => ⟨S8960x24x32, .bf16⟩
  | 24 => ⟨S_, .i32⟩
  | 25 => ⟨S8960x24x32, .i32⟩
  | 26 => ⟨S8960x24x32, .i32⟩
  | 27 => ⟨S_, .i32⟩
  | 28 => ⟨S8960x24x32, .i32⟩
  | 29 => ⟨S8960x24x32, .i1⟩
  | 30 => ⟨S_, .i32⟩
  | 31 => ⟨S8960x24x32, .i32⟩
  | 32 => ⟨S8960x24x32, .i32⟩
  | 33 => ⟨S_, .i32⟩
  | 34 => ⟨S8960x24x32, .i32⟩
  | 35 => ⟨S8960x24x32, .i1⟩
  | 36 => ⟨S_, .i32⟩
  | 37 => ⟨S8960x24x32, .i32⟩
  | 38 => ⟨S8960x24x32, .i32⟩
  | 39 => ⟨S_, .i32⟩
  | 40 => ⟨S8960x24x32, .i32⟩
  | 41 => ⟨S8960x24x32, .i1⟩
  | 42 => ⟨S_, .i32⟩
  | 43 => ⟨S8960x24x32, .i32⟩
  | 44 => ⟨S8960x24x32, .i32⟩
  | 45 => ⟨S_, .i32⟩
  | 46 => ⟨S8960x24x32, .i32⟩
  | 47 => ⟨S8960x24x32, .i1⟩
  | 48 => ⟨S_, .f32⟩
  | 49 => ⟨S_, .f32⟩
  | 50 => ⟨S8960x24x32, .f32⟩
  | 51 => ⟨S8960x24x32, .f32⟩
  | 52 => ⟨S8960x24x32, .f32⟩
  | 53 => ⟨S_, .f32⟩
  | 54 => ⟨S_, .f32⟩
  | 55 => ⟨S8960x24x32, .f32⟩
  | 56 => ⟨S8960x24x32, .f32⟩
  | 57 => ⟨S8960x24x32, .f32⟩
  | 58 => ⟨S8960x24x32, .f32⟩
  | 59 => ⟨S_, .f32⟩
  | 60 => ⟨S_, .f32⟩
  | 61 => ⟨S8960x24x32, .f32⟩
  | 62 => ⟨S8960x24x32, .f32⟩
  | 63 => ⟨S8960x24x32, .f32⟩
  | 64 => ⟨S_, .f32⟩
  | 65 => ⟨S_, .f32⟩
  | 66 => ⟨S8960x24x32, .f32⟩
  | 67 => ⟨S8960x24x32, .f32⟩
  | 68 => ⟨S8960x24x32, .f32⟩
  | 69 => ⟨S8960x24x32, .f32⟩
  | 70 => ⟨S8960x24x32, .f32⟩
  | 71 => ⟨S_, .f32⟩
  | 72 => ⟨S_, .f32⟩
  | 73 => ⟨S8960x24x32, .f32⟩
  | 74 => ⟨S8960x24x32, .f32⟩
  | 75 => ⟨S8960x24x32, .f32⟩
  | 76 => ⟨S_, .f32⟩
  | 77 => ⟨S_, .f32⟩
  | 78 => ⟨S8960x24x32, .f32⟩
  | 79 => ⟨S8960x24x32, .f32⟩
  | 80 => ⟨S8960x24x32, .f32⟩
  | 81 => ⟨S8960x24x32, .f32⟩
  | 82 => ⟨S_, .f32⟩
  | 83 => ⟨S_, .f32⟩
  | 84 => ⟨S8960x24x32, .f32⟩
  | 85 => ⟨S8960x24x32, .f32⟩
  | 86 => ⟨S8960x24x32, .f32⟩
  | 87 => ⟨S_, .f32⟩
  | 88 => ⟨S_, .f32⟩
  | 89 => ⟨S8960x24x32, .f32⟩
  | 90 => ⟨S8960x24x32, .f32⟩
  | 91 => ⟨S8960x24x32, .f32⟩
  | 92 => ⟨S8960x24x32, .f32⟩
  | 93 => ⟨S8960x24x32, .f32⟩
  | 94 => ⟨S8960x24x32, .f32⟩
  | 95 => ⟨S8960x24x1, .f32⟩
  | 96 => ⟨S8960x24x32, .f32⟩
  | 97 => ⟨S8960x24x32, .f32⟩
  | 98 => ⟨S8960x24x32, .bf16⟩
  | 99 => ⟨S6x256x24x32x1, .bf16⟩
  | 100 => ⟨S6x256x24x32, .bf16⟩
  | 101 => ⟨S6x256x8960, .f32⟩
  | 102 => ⟨S6x256x24x32x1, .bf16⟩
  | 103 => ⟨S6x256x24x32, .bf16⟩
  | 104 => ⟨S6x256x8960, .f32⟩
  | 105 => ⟨S6x256x8960, .f32⟩
  | 106 => ⟨S1x1x8960, .f32⟩
  | 107 => ⟨S6x256x8960, .f32⟩
  | 108 => ⟨S6x256x8960, .f32⟩
  | 109 => ⟨S6x256x8960, .bf16⟩
  | 110 => ⟨S1536x8960, .bf16⟩
  | 111 => ⟨S1536x32, .bf16⟩
  | _ => ⟨S6x256x1536, .bf16⟩

abbrev hbmTy (i : Nat) : BufTy := match i / 128 with
  | 0 => hbmTy0_0 i
  | 1 => hbmTy0_1 i
  | 2 => hbmTy0_2 i
  | _ => ⟨S6x256x1536, .bf16⟩

abbrev bufTy : (tb : Table) → Fin (tcTables nBuf tb) → BufTy
  | .hbm, ⟨i, _⟩ => hbmTy i
  | _, _ => ⟨S6x256x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_11 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_12 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_13 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_14 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_15 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_16 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_17 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_18 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_19 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_20 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_21 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_22 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_23 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_24 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_25 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_26 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_27 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_28 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_29 : Ref sig .tc := ⟨.hbm, 128, rfl⟩
abbrev main_v91 : Ref sig .tc := ⟨.hbm, 129, rfl⟩
abbrev main_v92 : Ref sig .tc := ⟨.hbm, 130, rfl⟩
abbrev main_cst_30 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_cst_31 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_c : Ref sig .tc := ⟨.hbm, 199, rfl⟩
abbrev main_v159 : Ref sig .tc := ⟨.hbm, 200, rfl⟩
abbrev main_v160 : Ref sig .tc := ⟨.hbm, 201, rfl⟩
abbrev main_c_32 : Ref sig .tc := ⟨.hbm, 202, rfl⟩
abbrev main_v161 : Ref sig .tc := ⟨.hbm, 203, rfl⟩
abbrev main_v162 : Ref sig .tc := ⟨.hbm, 204, rfl⟩
abbrev main_c_33 : Ref sig .tc := ⟨.hbm, 205, rfl⟩
abbrev main_v163 : Ref sig .tc := ⟨.hbm, 206, rfl⟩
abbrev main_v164 : Ref sig .tc := ⟨.hbm, 207, rfl⟩
abbrev main_c_34 : Ref sig .tc := ⟨.hbm, 208, rfl⟩
abbrev main_v165 : Ref sig .tc := ⟨.hbm, 209, rfl⟩
abbrev main_v166 : Ref sig .tc := ⟨.hbm, 210, rfl⟩
abbrev main_c_35 : Ref sig .tc := ⟨.hbm, 211, rfl⟩
abbrev main_v167 : Ref sig .tc := ⟨.hbm, 212, rfl⟩
abbrev main_v168 : Ref sig .tc := ⟨.hbm, 213, rfl⟩
abbrev main_c_36 : Ref sig .tc := ⟨.hbm, 214, rfl⟩
abbrev main_v169 : Ref sig .tc := ⟨.hbm, 215, rfl⟩
abbrev main_v170 : Ref sig .tc := ⟨.hbm, 216, rfl⟩
abbrev main_c_37 : Ref sig .tc := ⟨.hbm, 217, rfl⟩
abbrev main_v171 : Ref sig .tc := ⟨.hbm, 218, rfl⟩
abbrev main_v172 : Ref sig .tc := ⟨.hbm, 219, rfl⟩
abbrev main_c_38 : Ref sig .tc := ⟨.hbm, 220, rfl⟩
abbrev main_v173 : Ref sig .tc := ⟨.hbm, 221, rfl⟩
abbrev main_v174 : Ref sig .tc := ⟨.hbm, 222, rfl⟩
abbrev main_c_39 : Ref sig .tc := ⟨.hbm, 223, rfl⟩
abbrev main_v175 : Ref sig .tc := ⟨.hbm, 224, rfl⟩
abbrev main_v176 : Ref sig .tc := ⟨.hbm, 225, rfl⟩
abbrev main_c_40 : Ref sig .tc := ⟨.hbm, 226, rfl⟩
abbrev main_v177 : Ref sig .tc := ⟨.hbm, 227, rfl⟩
abbrev main_v178 : Ref sig .tc := ⟨.hbm, 228, rfl⟩
abbrev main_cst_41 : Ref sig .tc := ⟨.hbm, 229, rfl⟩
abbrev main_cst_42 : Ref sig .tc := ⟨.hbm, 230, rfl⟩
abbrev main_call0_v0 : Ref sig .tc := ⟨.hbm, 231, rfl⟩
abbrev main_call0_v1 : Ref sig .tc := ⟨.hbm, 232, rfl⟩
abbrev main_v179 : Ref sig .tc := ⟨.hbm, 233, rfl⟩
abbrev main_cst_43 : Ref sig .tc := ⟨.hbm, 234, rfl⟩
abbrev main_cst_44 : Ref sig .tc := ⟨.hbm, 235, rfl⟩
abbrev main_call1_v0 : Ref sig .tc := ⟨.hbm, 236, rfl⟩
abbrev main_call1_v1 : Ref sig .tc := ⟨.hbm, 237, rfl⟩
abbrev main_v180 : Ref sig .tc := ⟨.hbm, 238, rfl⟩
abbrev main_v181 : Ref sig .tc := ⟨.hbm, 239, rfl⟩
abbrev main_cst_45 : Ref sig .tc := ⟨.hbm, 240, rfl⟩
abbrev main_cst_46 : Ref sig .tc := ⟨.hbm, 241, rfl⟩
abbrev main_call3_v0 : Ref sig .tc := ⟨.hbm, 242, rfl⟩
abbrev main_call3_v1 : Ref sig .tc := ⟨.hbm, 243, rfl⟩
abbrev main_v182 : Ref sig .tc := ⟨.hbm, 244, rfl⟩
abbrev main_cst_47 : Ref sig .tc := ⟨.hbm, 245, rfl⟩
abbrev main_cst_48 : Ref sig .tc := ⟨.hbm, 246, rfl⟩
abbrev main_call4_v0 : Ref sig .tc := ⟨.hbm, 247, rfl⟩
abbrev main_call4_v1 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_cst_49 : Ref sig .tc := ⟨.hbm, 252, rfl⟩
abbrev main_cst_50 : Ref sig .tc := ⟨.hbm, 253, rfl⟩
abbrev main_call7_v0 : Ref sig .tc := ⟨.hbm, 254, rfl⟩
abbrev main_call7_v1 : Ref sig .tc := ⟨.hbm, 255, rfl⟩
abbrev main_v186 : Ref sig .tc := ⟨.hbm, 256, rfl⟩
abbrev main_cst_51 : Ref sig .tc := ⟨.hbm, 257, rfl⟩
abbrev main_cst_52 : Ref sig .tc := ⟨.hbm, 258, rfl⟩
abbrev main_call8_v0 : Ref sig .tc := ⟨.hbm, 259, rfl⟩
abbrev main_call8_v1 : Ref sig .tc := ⟨.hbm, 260, rfl⟩
abbrev main_v187 : Ref sig .tc := ⟨.hbm, 261, rfl⟩
abbrev main_v188 : Ref sig .tc := ⟨.hbm, 262, rfl⟩
abbrev main_cst_53 : Ref sig .tc := ⟨.hbm, 263, rfl⟩
abbrev main_cst_54 : Ref sig .tc := ⟨.hbm, 264, rfl⟩
abbrev main_call10_v0 : Ref sig .tc := ⟨.hbm, 265, rfl⟩
abbrev main_call10_v1 : Ref sig .tc := ⟨.hbm, 266, rfl⟩
abbrev main_v189 : Ref sig .tc := ⟨.hbm, 267, rfl⟩
abbrev main_cst_55 : Ref sig .tc := ⟨.hbm, 268, rfl⟩
abbrev main_cst_56 : Ref sig .tc := ⟨.hbm, 269, rfl⟩
abbrev main_call11_v0 : Ref sig .tc := ⟨.hbm, 270, rfl⟩
abbrev main_call11_v1 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_c_57 : Ref sig .tc := ⟨.hbm, 280, rfl⟩
abbrev main_v198 : Ref sig .tc := ⟨.hbm, 281, rfl⟩
abbrev main_v199 : Ref sig .tc := ⟨.hbm, 282, rfl⟩
abbrev main_c_58 : Ref sig .tc := ⟨.hbm, 283, rfl⟩
abbrev main_v200 : Ref sig .tc := ⟨.hbm, 284, rfl⟩
abbrev main_v201 : Ref sig .tc := ⟨.hbm, 285, rfl⟩
abbrev main_c_59 : Ref sig .tc := ⟨.hbm, 286, rfl⟩
abbrev main_v202 : Ref sig .tc := ⟨.hbm, 287, rfl⟩
abbrev main_v203 : Ref sig .tc := ⟨.hbm, 288, rfl⟩
abbrev main_c_60 : Ref sig .tc := ⟨.hbm, 289, rfl⟩
abbrev main_v204 : Ref sig .tc := ⟨.hbm, 290, rfl⟩
abbrev main_v205 : Ref sig .tc := ⟨.hbm, 291, rfl⟩
abbrev main_c_61 : Ref sig .tc := ⟨.hbm, 292, rfl⟩
abbrev main_v206 : Ref sig .tc := ⟨.hbm, 293, rfl⟩
abbrev main_v207 : Ref sig .tc := ⟨.hbm, 294, rfl⟩
abbrev main_c_62 : Ref sig .tc := ⟨.hbm, 295, rfl⟩
abbrev main_v208 : Ref sig .tc := ⟨.hbm, 296, rfl⟩
abbrev main_v209 : Ref sig .tc := ⟨.hbm, 297, rfl⟩
abbrev main_c_63 : Ref sig .tc := ⟨.hbm, 298, rfl⟩
abbrev main_v210 : Ref sig .tc := ⟨.hbm, 299, rfl⟩
abbrev main_v211 : Ref sig .tc := ⟨.hbm, 300, rfl⟩
abbrev main_c_64 : Ref sig .tc := ⟨.hbm, 301, rfl⟩
abbrev main_v212 : Ref sig .tc := ⟨.hbm, 302, rfl⟩
abbrev main_v213 : Ref sig .tc := ⟨.hbm, 303, rfl⟩
abbrev main_cst_65 : Ref sig .tc := ⟨.hbm, 304, rfl⟩
abbrev main_cst_66 : Ref sig .tc := ⟨.hbm, 305, rfl⟩
abbrev main_call15_v0 : Ref sig .tc := ⟨.hbm, 306, rfl⟩
abbrev main_call15_v1 : Ref sig .tc := ⟨.hbm, 307, rfl⟩
abbrev main_v214 : Ref sig .tc := ⟨.hbm, 308, rfl⟩
abbrev main_cst_67 : Ref sig .tc := ⟨.hbm, 309, rfl⟩
abbrev main_cst_68 : Ref sig .tc := ⟨.hbm, 310, rfl⟩
abbrev main_call16_v0 : Ref sig .tc := ⟨.hbm, 311, rfl⟩
abbrev main_call16_v1 : Ref sig .tc := ⟨.hbm, 312, rfl⟩
abbrev main_v215 : Ref sig .tc := ⟨.hbm, 313, rfl⟩
abbrev main_v216 : Ref sig .tc := ⟨.hbm, 314, rfl⟩
abbrev main_cst_69 : Ref sig .tc := ⟨.hbm, 315, rfl⟩
abbrev main_cst_70 : Ref sig .tc := ⟨.hbm, 316, rfl⟩
abbrev main_call18_v0 : Ref sig .tc := ⟨.hbm, 317, rfl⟩
abbrev main_call18_v1 : Ref sig .tc := ⟨.hbm, 318, rfl⟩
abbrev main_v217 : Ref sig .tc := ⟨.hbm, 319, rfl⟩
abbrev main_cst_71 : Ref sig .tc := ⟨.hbm, 320, rfl⟩
abbrev main_cst_72 : Ref sig .tc := ⟨.hbm, 321, rfl⟩
abbrev main_call19_v0 : Ref sig .tc := ⟨.hbm, 322, rfl⟩
abbrev main_call19_v1 : Ref sig .tc := ⟨.hbm, 323, rfl⟩
abbrev main_v218 : Ref sig .tc := ⟨.hbm, 324, rfl⟩
abbrev main_v219 : Ref sig .tc := ⟨.hbm, 325, rfl⟩
abbrev main_v220 : Ref sig .tc := ⟨.hbm, 326, rfl⟩
abbrev main_cst_73 : Ref sig .tc := ⟨.hbm, 327, rfl⟩
abbrev main_cst_74 : Ref sig .tc := ⟨.hbm, 328, rfl⟩
abbrev main_call22_v0 : Ref sig .tc := ⟨.hbm, 329, rfl⟩
abbrev main_call22_v1 : Ref sig .tc := ⟨.hbm, 330, rfl⟩
abbrev main_v221 : Ref sig .tc := ⟨.hbm, 331, rfl⟩
abbrev main_cst_75 : Ref sig .tc := ⟨.hbm, 332, rfl⟩
abbrev main_cst_76 : Ref sig .tc := ⟨.hbm, 333, rfl⟩
abbrev main_call23_v0 : Ref sig .tc := ⟨.hbm, 334, rfl⟩
abbrev main_call23_v1 : Ref sig .tc := ⟨.hbm, 335, rfl⟩
abbrev main_v222 : Ref sig .tc := ⟨.hbm, 336, rfl⟩
abbrev main_v223 : Ref sig .tc := ⟨.hbm, 337, rfl⟩
abbrev main_cst_77 : Ref sig .tc := ⟨.hbm, 338, rfl⟩
abbrev main_cst_78 : Ref sig .tc := ⟨.hbm, 339, rfl⟩
abbrev main_call25_v0 : Ref sig .tc := ⟨.hbm, 340, rfl⟩
abbrev main_call25_v1 : Ref sig .tc := ⟨.hbm, 341, rfl⟩
abbrev main_v224 : Ref sig .tc := ⟨.hbm, 342, rfl⟩
abbrev main_cst_79 : Ref sig .tc := ⟨.hbm, 343, rfl⟩
abbrev main_cst_80 : Ref sig .tc := ⟨.hbm, 344, rfl⟩
abbrev main_call26_v0 : Ref sig .tc := ⟨.hbm, 345, rfl⟩
abbrev main_call26_v1 : Ref sig .tc := ⟨.hbm, 346, rfl⟩
abbrev main_v225 : Ref sig .tc := ⟨.hbm, 347, rfl⟩
abbrev main_v226 : Ref sig .tc := ⟨.hbm, 348, rfl⟩
abbrev main_v227 : Ref sig .tc := ⟨.hbm, 349, rfl⟩
abbrev main_v228 : Ref sig .tc := ⟨.hbm, 350, rfl⟩
abbrev main_v229 : Ref sig .tc := ⟨.hbm, 351, rfl⟩
abbrev main_v230 : Ref sig .tc := ⟨.hbm, 352, rfl⟩
abbrev main_v231 : Ref sig .tc := ⟨.hbm, 353, rfl⟩
abbrev main_v232 : Ref sig .tc := ⟨.hbm, 354, rfl⟩
abbrev main_v233 : Ref sig .tc := ⟨.hbm, 355, rfl⟩
abbrev main_v234 : Ref sig .tc := ⟨.hbm, 356, rfl⟩
abbrev main_v235 : Ref sig .tc := ⟨.hbm, 357, rfl⟩
abbrev main_v236 : Ref sig .tc := ⟨.hbm, 358, rfl⟩
abbrev main_v237 : Ref sig .tc := ⟨.hbm, 359, rfl⟩
abbrev main_v238 : Ref sig .tc := ⟨.hbm, 360, rfl⟩
abbrev main_v239 : Ref sig .tc := ⟨.hbm, 361, rfl⟩
abbrev main_v240 : Ref sig .tc := ⟨.hbm, 362, rfl⟩
abbrev main_v241 : Ref sig .tc := ⟨.hbm, 363, rfl⟩
abbrev main_v242 : Ref sig .tc := ⟨.hbm, 364, rfl⟩
abbrev main_v243 : Ref sig .tc := ⟨.hbm, 365, rfl⟩
abbrev main_v244 : Ref sig .tc := ⟨.hbm, 366, rfl⟩
abbrev main_v245 : Ref sig .tc := ⟨.hbm, 367, rfl⟩

abbrev nD : Nat := 1
abbrev τ : Topo := Topo.v7x

variable {F : FTy → Type} [FloatOps F]
-- ==== Proof.Run.Base.lean ====
/- What the two runs of the kernel's body are stated over: the branch condition in closed form, where the
   windows are idle, the staging and scratch memrefs. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, k0_cond1, e0]
    word_cmp
   : ∀ t : Fin grid0.N, cond0_0 (grid0.coords t) ↔ t.val % 7 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- Whether output 8's buffer is FRESH at each position `1 ‥ N` — holds nothing the body stored since the region's entry or the
    last write-back (written back at the point before, or idle there and fresh before it) —, as a bitmask the classifier
    computed, bit `n` for position `n + 1`; position 0 is fresh. `freshTab0_8_step` checks it against the configuration's own
    step point by point and Lib/Pipeline/TableIdle.lean `Cfg.fresh_tab` makes it `Cfg.fresh` (`fresh0_8_eq`). -/
def freshTab0_8 : ℕ → Bool
  | 0 => true
  | n + 1 => (0x40 : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)
/-- At the points of case A the printed configuration (`Cfg.idle`) calls output 8 live: the case stores into it. -/
theorem liveAt0_8_A : ∀ t : Fin cfg0.N, cond0_0 (grid0.coords t) → cfg0.idle 8 (grid0.coords t) = false := by decide +kernel
/-- At the points of case B the printed configuration (`Cfg.idle`) calls output 8 idle: the case stores nothing into it. -/
theorem idleAt0_8_B : ∀ t : Fin cfg0.N, ¬cond0_0 (grid0.coords t) → cfg0.idle 8 (grid0.coords t) = true := by decide +kernel
/-- At the points of case B, which keeps output 8's prior contents (reads it before covering, or covers it in part), the
    window's buffer is not FRESH: something was stored into it since the region's entry or its last write-back, idle points
    between or not (Lib/Pipeline/TableIdle.lean `Cfg.fresh`, by the table `freshTab0_8`). -/
theorem notFresh0_8_B : ∀ t : Fin cfg0.N, ¬cond0_0 (grid0.coords t) → cfg0.fresh 8 t.val = false := by
  intro t; rw [fresh0_8_eq t]; revert t; decide +kernel

/-! ## The kernel body on any staging memrefs: a subtype the run finds -/

/-- One staging buffer of output window 7, through which its contents are stated (`View.read_writes_of_cover`: the
    choice does not matter). -/
abbrev VO0_7 : View sig .tc .vmem S1536x1280 .bf16 := (Memref.whole cc0_stg7_0 : Memref sig .tc .vmem S1536x1280 .bf16).view
/-- One staging buffer of output window 8, through which its contents are stated (`View.read_writes_of_cover`: the
    choice does not matter). -/
abbrev VO0_8 : View sig .tc .vmem S1536x32 .bf16 := (Memref.whole cc0_stg8_0 : Memref sig .tc .vmem S1536x32 .bf16).view
/-- Each window's current staging memref at point `t`, spelled as the pipeline passes it (`bodyAt0`), and its wholeness. -/
abbrev ms0_0 (t : Fin cfg0.N) : Memref sig .tc .vmem S1536x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S48x496 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x768 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x24 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S840 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S840 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1280 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1536x1280 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1536x32 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S1536x1536 .bf16 := Memref.whole cc0_scratch0
abbrev scM0_1 : Memref sig .tc .vmem S1792x128 .f32 := Memref.whole cc0_scratch1
abbrev scM0_2 : Memref sig .tc .vmem S256x1536 .bf16 := Memref.whole cc0_scratch2
abbrev scM0_3 : Memref sig .tc .vmem S256x1536 .bf16 := Memref.whole cc0_scratch3
abbrev scM0_4 : Memref sig .tc .vmem S256x1536 .bf16 := Memref.whole cc0_scratch4
abbrev scM0_5 : Memref sig .tc .vmem S256x1536 .bf16 := Memref.whole cc0_scratch5
abbrev scM0_6 : Memref sig .tc .vmem S256x1536 .bf16 := Memref.whole cc0_scratch6
/-- The scratch `arg10` the kernel carries between points, as a view: what it holds is stated through it. -/
abbrev VS0_0 : View sig .tc .vmem S1536x1536 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl
end Cert.KernelIdeal.Run

end
-- ==== Proof.Run.CaseB.lean ====
/- The whole-body run of the kernel in case B: the pieces its stores leave in each buffer are the witness. -/
module

public import proofs.«01_k».proof.Proof.Run.Base

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 13568000 in
/-- What the body's stores leave in each output's staging memref, as pieces (last first) IN CASE B (`scf.if` 0 not taken: points 1, 2, 3, 4, 5, 6), WITH the
    proof that on whole staging memrefs — the inputs' at their contents, the outputs it reads before covering (8) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1536x1536 .bf16) (harg1 : arg1.IsWhole) (arg2 : Memref sig .tc .vmem S48x496 .f32) (harg2 : arg2.IsWhole) (arg3 : Memref sig .tc .vmem S1280x768 .i8) (harg3 : arg3.IsWhole) (arg4 : Memref sig .tc .vmem S1280x24 .i8) (harg4 : arg4.IsWhole) (arg5 : Memref sig .tc .smem S840 .f32) (harg5 : arg5.IsWhole) (arg6 : Memref sig .tc .smem S840 .f32) (harg6 : arg6.IsWhole) (arg7 : Memref sig .tc .vmem S1x1280 .f32) (harg7 : arg7.IsWhole) (arg8 : Memref sig .tc .vmem S1536x1280 .bf16) (harg8 : arg8.IsWhole) (arg9 : Memref sig .tc .vmem S1536x32 .bf16) (harg9 : arg9.IsWhole) (arg10 : Memref sig .tc .vmem S1536x1536 .bf16) (harg10 : arg10.IsWhole) (arg11 : Memref sig .tc .vmem S1792x128 .f32) (harg11 : arg11.IsWhole) (arg12 : Memref sig .tc .vmem S256x1536 .bf16) (harg12 : arg12.IsWhole) (arg13 : Memref sig .tc .vmem S256x1536 .bf16) (harg13 : arg13.IsWhole) (arg14 : Memref sig .tc .vmem S256x1536 .bf16) (harg14 : arg14.IsWhole) (arg15 : Memref sig .tc .vmem S256x1536 .bf16) (harg15 : arg15.IsWhole) (arg16 : Memref sig .tc .vmem S256x1536 .bf16) (harg16 : arg16.IsWhole) (hc0 : ¬cond0_0 i)
    (x0 : Vec F S1536x1536 .bf16) (x1 : Vec F S48x496 .f32) (x2 : Vec F S1280x768 .i8) (x3 : Vec F S1280x24 .i8) (x4 : Vec F S840 .f32) (x5 : Vec F S840 .f32) (x6 : Vec F S1x1280 .f32) (xo8 : Vec F S1536x32 .bf16) (xs0 : Vec F S1536x1536 .bf16) :
    Σ' (L7 : List (View.Piece (Elt F) S1536x1280 .bf16)), Σ' (L8 : List (View.Piece (Elt F) S1536x32 .bf16)), Σ' (LS0 : List (View.Piece (Elt F) S1536x1536 .bf16)), Σ' (LT1 : List (View.Piece (Elt F) S1792x128 .f32)), Σ' (LT2 : List (View.Piece (Elt F) S256x1536 .bf16)), Σ' (LT3 : List (View.Piece (Elt F) S256x1536 .bf16)), Σ' (LT4 : List (View.Piece (Elt F) S256x1536 .bf16)), Σ' (LT5 : List (View.Piece (Elt F) S256x1536 .bf16)), { LT6 : List (View.Piece (Elt F) S256x1536 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xo8 ∗ owns (c : Thread nD τ) arg10 fullShare xs0 ∗ (∃ d, owns (c : Thread nD τ) arg11 fullShare d) ∗ (∃ f, arg12.view.loc (c : Thread nD τ) ↦[arg12.view.set]{fullShare} arg12.view.writes (Elt F) f LT2) ∗ (∃ f, arg13.view.loc (c : Thread nD τ) ↦[arg13.view.set]{fullShare} arg13.view.writes (Elt F) f LT3) ∗ (∃ f, arg14.view.loc (c : Thread nD τ) ↦[arg14.view.set]{fullShare} arg14.view.writes (Elt F) f LT4) ∗ (∃ f, arg15.view.loc (c : Thread nD τ) ↦[arg15.view.set]{fullShare} arg15.view.writes (Elt F) f LT5) ∗ (∃ f, arg16.view.loc (c : Thread nD τ) ↦[arg16.view.set]{fullShare} arg16.view.writes (Elt F) f LT6)) -∗ K ⟨⟩))
          ⊢ wp frame (wpE (defs₀ (F := F)) Variants.none c none) E (cc0_qoft_nf4_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], [], [], ?_, ?_, ?_, ?_, ?_, fun E K => ?run⟩
  case run =>
    simp only [cc0_qoft_nf4_linear_eq_skeleton]; unfold cc0_qoft_nf4_linear_skel
    simp only [k0_part459_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part460_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part461_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part462_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part463_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part464_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [HS0]
    · iexists _; isplitr; · ipureintro; exact harg10.read_unread _
      iexact HS0
    isplitl [HS1]
    · iexists _, _; isplitr; swap; · iexact HS1
      ipureintro; rfl
    isplitl [HS2]; · iexists _; iexact HS2
    isplitl [HS3]; · iexists _; iexact HS3
    isplitl [HS4]; · iexists _; iexact HS4
    isplitl [HS5]; · iexists _; iexact HS5
    iexists _; iexact HS6
end Cert.KernelIdeal.Run

end
-- ==== Proof.Run.CaseA.lean ====
/- The whole-body run of the kernel in case A: the pieces its stores leave in each buffer are the witness. -/
module

public import proofs.«01_k».proof.Proof.Run.CaseB

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 15324000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1536x1536 .bf16) (harg1 : arg1.IsWhole) (arg2 : Memref sig .tc .vmem S48x496 .f32) (harg2 : arg2.IsWhole) (arg3 : Memref sig .tc .vmem S1280x768 .i8) (harg3 : arg3.IsWhole) (arg4 : Memref sig .tc .vmem S1280x24 .i8) (harg4 : arg4.IsWhole) (arg5 : Memref sig .tc .smem S840 .f32) (harg5 : arg5.IsWhole) (arg6 : Memref sig .tc .smem S840 .f32) (harg6 : arg6.IsWhole) (arg7 : Memref sig .tc .vmem S1x1280 .f32) (harg7 : arg7.IsWhole) (arg8 : Memref sig .tc .vmem S1536x1280 .bf16) (harg8 : arg8.IsWhole) (arg9 : Memref sig .tc .vmem S1536x32 .bf16) (harg9 : arg9.IsWhole) (arg10 : Memref sig .tc .vmem S1536x1536 .bf16) (harg10 : arg10.IsWhole) (arg11 : Memref sig .tc .vmem S1792x128 .f32) (harg11 : arg11.IsWhole) (arg12 : Memref sig .tc .vmem S256x1536 .bf16) (harg12 : arg12.IsWhole) (arg13 : Memref sig .tc .vmem S256x1536 .bf16) (harg13 : arg13.IsWhole) (arg14 : Memref sig .tc .vmem S256x1536 .bf16) (harg14 : arg14.IsWhole) (arg15 : Memref sig .tc .vmem S256x1536 .bf16) (harg15 : arg15.IsWhole) (arg16 : Memref sig .tc .vmem S256x1536 .bf16) (harg16 : arg16.IsWhole) (hc0 : cond0_0 i)
    (x0 : Vec F S1536x1536 .bf16) (x1 : Vec F S48x496 .f32) (x2 : Vec F S1280x768 .i8) (x3 : Vec F S1280x24 .i8) (x4 : Vec F S840 .f32) (x5 : Vec F S840 .f32) (x6 : Vec F S1x1280 .f32) :
    Σ' (L7 : List (View.Piece (Elt F) S1536x1280 .bf16)), Σ' (L8 : List (View.Piece (Elt F) S1536x32 .bf16)), Σ' (LS0 : List (View.Piece (Elt F) S1536x1536 .bf16)), Σ' (LT1 : List (View.Piece (Elt F) S1792x128 .f32)), Σ' (LT2 : List (View.Piece (Elt F) S256x1536 .bf16)), Σ' (LT3 : List (View.Piece (Elt F) S256x1536 .bf16)), Σ' (LT4 : List (View.Piece (Elt F) S256x1536 .bf16)), Σ' (LT5 : List (View.Piece (Elt F) S256x1536 .bf16)), { LT6 : List (View.Piece (Elt F) S256x1536 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LT1) ∗ (∃ f, arg12.view.loc (c : Thread nD τ) ↦[arg12.view.set]{fullShare} arg12.view.writes (Elt F) f LT2) ∗ (∃ f, arg13.view.loc (c : Thread nD τ) ↦[arg13.view.set]{fullShare} arg13.view.writes (Elt F) f LT3) ∗ (∃ f, arg14.view.loc (c : Thread nD τ) ↦[arg14.view.set]{fullShare} arg14.view.writes (Elt F) f LT4) ∗ (∃ f, arg15.view.loc (c : Thread nD τ) ↦[arg15.view.set]{fullShare} arg15.view.writes (Elt F) f LT5) ∗ (∃ f, arg16.view.loc (c : Thread nD τ) ↦[arg16.view.set]{fullShare} arg16.view.writes (Elt F) f LT6)) -∗ K ⟨⟩))
          ⊢ wp frame (wpE (defs₀ (F := F)) Variants.none c none) E (cc0_qoft_nf4_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, ?_, fun E K => ?run⟩
  case run =>
    simp only [cc0_qoft_nf4_linear_eq_skeleton]; unfold cc0_qoft_nf4_linear_skel
    simp only [k0_part459_eq_skeleton, k0_part64_eq_skeleton, k0_part63_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part460_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part461_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part462_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part463_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part464_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6
end Cert.KernelIdeal.Run

end
-- ==== Proof.Run.Frame.lean ====
/- The frame of the kernel: what the outputs and the carried scratch hold point by point, the proof data, the body
   obligation, the run and its frame. -/
module

public import proofs.«01_k».proof.Proof.Run.CaseA
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for output 7 tile its block (5 stores of `S1536x256`, checked by the kernel's evaluation: Lib/Ring.lean `Piece.tiledL`, linear in the pieces, through a loop's `@[irreducible]` trip theorem too), so they cover it. -/
theorem cover0_A_7 (c : Dev nD) (i : grid0.Coords) (arg1 : Memref sig .tc .vmem S1536x1536 .bf16) (harg1 : arg1.IsWhole) (arg2 : Memref sig .tc .vmem S48x496 .f32) (harg2 : arg2.IsWhole) (arg3 : Memref sig .tc .vmem S1280x768 .i8) (harg3 : arg3.IsWhole) (arg4 : Memref sig .tc .vmem S1280x24 .i8) (harg4 : arg4.IsWhole) (arg5 : Memref sig .tc .smem S840 .f32) (harg5 : arg5.IsWhole) (arg6 : Memref sig .tc .smem S840 .f32) (harg6 : arg6.IsWhole) (arg7 : Memref sig .tc .vmem S1x1280 .f32) (harg7 : arg7.IsWhole) (arg8 : Memref sig .tc .vmem S1536x1280 .bf16) (harg8 : arg8.IsWhole) (arg9 : Memref sig .tc .vmem S1536x32 .bf16) (harg9 : arg9.IsWhole) (arg10 : Memref sig .tc .vmem S1536x1536 .bf16) (harg10 : arg10.IsWhole) (arg11 : Memref sig .tc .vmem S1792x128 .f32) (harg11 : arg11.IsWhole) (arg12 : Memref sig .tc .vmem S256x1536 .bf16) (harg12 : arg12.IsWhole) (arg13 : Memref sig .tc .vmem S256x1536 .bf16) (harg13 : arg13.IsWhole) (arg14 : Memref sig .tc .vmem S256x1536 .bf16) (harg14 : arg14.IsWhole) (arg15 : Memref sig .tc .vmem S256x1536 .bf16) (harg15 : arg15.IsWhole) (arg16 : Memref sig .tc .vmem S256x1536 .bf16) (harg16 : arg16.IsWhole) (hc0 : cond0_0 i)
    (x0 : Vec F S1536x1536 .bf16) (x1 : Vec F S48x496 .f32) (x2 : Vec F S1280x768 .i8) (x3 : Vec F S1280x24 .i8) (x4 : Vec F S840 .f32) (x5 : Vec F S840 .f32) (x6 : Vec F S1x1280 .f32) (y : S1536x1280.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).1 S1536x256.size (by sl_kernel_rfl) y

/-- What case A leaves in output 7's staging buffer: its pieces read back over junk. -/
def out0_A_7 (c : Dev nD) (i : grid0.Coords) (arg1 : Memref sig .tc .vmem S1536x1536 .bf16) (harg1 : arg1.IsWhole) (arg2 : Memref sig .tc .vmem S48x496 .f32) (harg2 : arg2.IsWhole) (arg3 : Memref sig .tc .vmem S1280x768 .i8) (harg3 : arg3.IsWhole) (arg4 : Memref sig .tc .vmem S1280x24 .i8) (harg4 : arg4.IsWhole) (arg5 : Memref sig .tc .smem S840 .f32) (harg5 : arg5.IsWhole) (arg6 : Memref sig .tc .smem S840 .f32) (harg6 : arg6.IsWhole) (arg7 : Memref sig .tc .vmem S1x1280 .f32) (harg7 : arg7.IsWhole) (arg8 : Memref sig .tc .vmem S1536x1280 .bf16) (harg8 : arg8.IsWhole) (arg9 : Memref sig .tc .vmem S1536x32 .bf16) (harg9 : arg9.IsWhole) (arg10 : Memref sig .tc .vmem S1536x1536 .bf16) (harg10 : arg10.IsWhole) (arg11 : Memref sig .tc .vmem S1792x128 .f32) (harg11 : arg11.IsWhole) (arg12 : Memref sig .tc .vmem S256x1536 .bf16) (harg12 : arg12.IsWhole) (arg13 : Memref sig .tc .vmem S256x1536 .bf16) (harg13 : arg13.IsWhole) (arg14 : Memref sig .tc .vmem S256x1536 .bf16) (harg14 : arg14.IsWhole) (arg15 : Memref sig .tc .vmem S256x1536 .bf16) (harg15 : arg15.IsWhole) (arg16 : Memref sig .tc .vmem S256x1536 .bf16) (harg16 : arg16.IsWhole) (hc0 : cond0_0 i)
    (x0 : Vec F S1536x1536 .bf16) (x1 : Vec F S48x496 .f32) (x2 : Vec F S1280x768 .i8) (x3 : Vec F S1280x24 .i8) (x4 : Vec F S840 .f32) (x5 : Vec F S840 .f32) (x6 : Vec F S1x1280 .f32) : Vec F S1536x1280 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).1)

/-- Case A's pieces for output 8 tile its block (48 stores of `S32x32`, checked by the kernel's evaluation: Lib/Ring.lean `Piece.tiledL`, linear in the pieces, through a loop's `@[irreducible]` trip theorem too), so they cover it. -/
theorem cover0_A_8 (c : Dev nD) (i : grid0.Coords) (arg1 : Memref sig .tc .vmem S1536x1536 .bf16) (harg1 : arg1.IsWhole) (arg2 : Memref sig .tc .vmem S48x496 .f32) (harg2 : arg2.IsWhole) (arg3 : Memref sig .tc .vmem S1280x768 .i8) (harg3 : arg3.IsWhole) (arg4 : Memref sig .tc .vmem S1280x24 .i8) (harg4 : arg4.IsWhole) (arg5 : Memref sig .tc .smem S840 .f32) (harg5 : arg5.IsWhole) (arg6 : Memref sig .tc .smem S840 .f32) (harg6 : arg6.IsWhole) (arg7 : Memref sig .tc .vmem S1x1280 .f32) (harg7 : arg7.IsWhole) (arg8 : Memref sig .tc .vmem S1536x1280 .bf16) (harg8 : arg8.IsWhole) (arg9 : Memref sig .tc .vmem S1536x32 .bf16) (harg9 : arg9.IsWhole) (arg10 : Memref sig .tc .vmem S1536x1536 .bf16) (harg10 : arg10.IsWhole) (arg11 : Memref sig .tc .vmem S1792x128 .f32) (harg11 : arg11.IsWhole) (arg12 : Memref sig .tc .vmem S256x1536 .bf16) (harg12 : arg12.IsWhole) (arg13 : Memref sig .tc .vmem S256x1536 .bf16) (harg13 : arg13.IsWhole) (arg14 : Memref sig .tc .vmem S256x1536 .bf16) (harg14 : arg14.IsWhole) (arg15 : Memref sig .tc .vmem S256x1536 .bf16) (harg15 : arg15.IsWhole) (arg16 : Memref sig .tc .vmem S256x1536 .bf16) (harg16 : arg16.IsWhole) (hc0 : cond0_0 i)
    (x0 : Vec F S1536x1536 .bf16) (x1 : Vec F S48x496 .f32) (x2 : Vec F S1280x768 .i8) (x3 : Vec F S1280x24 .i8) (x4 : Vec F S840 .f32) (x5 : Vec F S840 .f32) (x6 : Vec F S1x1280 .f32) (y : S1536x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).2.1 S32x32.size (by sl_kernel_rfl) y

/-- What case A leaves in output 8's staging buffer: its pieces read back over junk. -/
def out0_A_8 (c : Dev nD) (i : grid0.Coords) (arg1 : Memref sig .tc .vmem S1536x1536 .bf16) (harg1 : arg1.IsWhole) (arg2 : Memref sig .tc .vmem S48x496 .f32) (harg2 : arg2.IsWhole) (arg3 : Memref sig .tc .vmem S1280x768 .i8) (harg3 : arg3.IsWhole) (arg4 : Memref sig .tc .vmem S1280x24 .i8) (harg4 : arg4.IsWhole) (arg5 : Memref sig .tc .smem S840 .f32) (harg5 : arg5.IsWhole) (arg6 : Memref sig .tc .smem S840 .f32) (harg6 : arg6.IsWhole) (arg7 : Memref sig .tc .vmem S1x1280 .f32) (harg7 : arg7.IsWhole) (arg8 : Memref sig .tc .vmem S1536x1280 .bf16) (harg8 : arg8.IsWhole) (arg9 : Memref sig .tc .vmem S1536x32 .bf16) (harg9 : arg9.IsWhole) (arg10 : Memref sig .tc .vmem S1536x1536 .bf16) (harg10 : arg10.IsWhole) (arg11 : Memref sig .tc .vmem S1792x128 .f32) (harg11 : arg11.IsWhole) (arg12 : Memref sig .tc .vmem S256x1536 .bf16) (harg12 : arg12.IsWhole) (arg13 : Memref sig .tc .vmem S256x1536 .bf16) (harg13 : arg13.IsWhole) (arg14 : Memref sig .tc .vmem S256x1536 .bf16) (harg14 : arg14.IsWhole) (arg15 : Memref sig .tc .vmem S256x1536 .bf16) (harg15 : arg15.IsWhole) (arg16 : Memref sig .tc .vmem S256x1536 .bf16) (harg16 : arg16.IsWhole) (hc0 : cond0_0 i)
    (x0 : Vec F S1536x1536 .bf16) (x1 : Vec F S48x496 .f32) (x2 : Vec F S1280x768 .i8) (x3 : Vec F S1280x24 .i8) (x4 : Vec F S840 .f32) (x5 : Vec F S840 .f32) (x6 : Vec F S1x1280 .f32) : Vec F S1536x32 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).2.1)

/-- Case A's pieces for scratch `arg10`, which the kernel carries between points, cover it: 12 pieces of `S1536x128` tiling it (Lib/Ring.lean `Piece.tiledL`). -/
theorem scover0_A_0 (c : Dev nD) (i : grid0.Coords) (arg1 : Memref sig .tc .vmem S1536x1536 .bf16) (harg1 : arg1.IsWhole) (arg2 : Memref sig .tc .vmem S48x496 .f32) (harg2 : arg2.IsWhole) (arg3 : Memref sig .tc .vmem S1280x768 .i8) (harg3 : arg3.IsWhole) (arg4 : Memref sig .tc .vmem S1280x24 .i8) (harg4 : arg4.IsWhole) (arg5 : Memref sig .tc .smem S840 .f32) (harg5 : arg5.IsWhole) (arg6 : Memref sig .tc .smem S840 .f32) (harg6 : arg6.IsWhole) (arg7 : Memref sig .tc .vmem S1x1280 .f32) (harg7 : arg7.IsWhole) (arg8 : Memref sig .tc .vmem S1536x1280 .bf16) (harg8 : arg8.IsWhole) (arg9 : Memref sig .tc .vmem S1536x32 .bf16) (harg9 : arg9.IsWhole) (arg10 : Memref sig .tc .vmem S1536x1536 .bf16) (harg10 : arg10.IsWhole) (arg11 : Memref sig .tc .vmem S1792x128 .f32) (harg11 : arg11.IsWhole) (arg12 : Memref sig .tc .vmem S256x1536 .bf16) (harg12 : arg12.IsWhole) (arg13 : Memref sig .tc .vmem S256x1536 .bf16) (harg13 : arg13.IsWhole) (arg14 : Memref sig .tc .vmem S256x1536 .bf16) (harg14 : arg14.IsWhole) (arg15 : Memref sig .tc .vmem S256x1536 .bf16) (harg15 : arg15.IsWhole) (arg16 : Memref sig .tc .vmem S256x1536 .bf16) (harg16 : arg16.IsWhole) (hc0 : cond0_0 i)
    (x0 : Vec F S1536x1536 .bf16) (x1 : Vec F S48x496 .f32) (x2 : Vec F S1280x768 .i8) (x3 : Vec F S1280x24 .i8) (x4 : Vec F S840 .f32) (x5 : Vec F S840 .f32) (x6 : Vec F S1x1280 .f32) (y : S1536x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).2.2.1 S1536x128.size (by sl_kernel_rfl) y

/-- What case A leaves in scratch `arg10`: its pieces read back over junk. -/
def sout0_A_0 (c : Dev nD) (i : grid0.Coords) (arg1 : Memref sig .tc .vmem S1536x1536 .bf16) (harg1 : arg1.IsWhole) (arg2 : Memref sig .tc .vmem S48x496 .f32) (harg2 : arg2.IsWhole) (arg3 : Memref sig .tc .vmem S1280x768 .i8) (harg3 : arg3.IsWhole) (arg4 : Memref sig .tc .vmem S1280x24 .i8) (harg4 : arg4.IsWhole) (arg5 : Memref sig .tc .smem S840 .f32) (harg5 : arg5.IsWhole) (arg6 : Memref sig .tc .smem S840 .f32) (harg6 : arg6.IsWhole) (arg7 : Memref sig .tc .vmem S1x1280 .f32) (harg7 : arg7.IsWhole) (arg8 : Memref sig .tc .vmem S1536x1280 .bf16) (harg8 : arg8.IsWhole) (arg9 : Memref sig .tc .vmem S1536x32 .bf16) (harg9 : arg9.IsWhole) (arg10 : Memref sig .tc .vmem S1536x1536 .bf16) (harg10 : arg10.IsWhole) (arg11 : Memref sig .tc .vmem S1792x128 .f32) (harg11 : arg11.IsWhole) (arg12 : Memref sig .tc .vmem S256x1536 .bf16) (harg12 : arg12.IsWhole) (arg13 : Memref sig .tc .vmem S256x1536 .bf16) (harg13 : arg13.IsWhole) (arg14 : Memref sig .tc .vmem S256x1536 .bf16) (harg14 : arg14.IsWhole) (arg15 : Memref sig .tc .vmem S256x1536 .bf16) (harg15 : arg15.IsWhole) (arg16 : Memref sig .tc .vmem S256x1536 .bf16) (harg16 : arg16.IsWhole) (hc0 : cond0_0 i)
    (x0 : Vec F S1536x1536 .bf16) (x1 : Vec F S48x496 .f32) (x2 : Vec F S1280x768 .i8) (x3 : Vec F S1280x24 .i8) (x4 : Vec F S840 .f32) (x5 : Vec F S840 .f32) (x6 : Vec F S1x1280 .f32) : Vec F S1536x1536 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).2.2.1)

/-- Case B's pieces for output 7 tile its block (5 stores of `S1536x256`, checked by the kernel's evaluation: Lib/Ring.lean `Piece.tiledL`, linear in the pieces, through a loop's `@[irreducible]` trip theorem too), so they cover it. -/
theorem cover0_B_7 (c : Dev nD) (i : grid0.Coords) (arg1 : Memref sig .tc .vmem S1536x1536 .bf16) (harg1 : arg1.IsWhole) (arg2 : Memref sig .tc .vmem S48x496 .f32) (harg2 : arg2.IsWhole) (arg3 : Memref sig .tc .vmem S1280x768 .i8) (harg3 : arg3.IsWhole) (arg4 : Memref sig .tc .vmem S1280x24 .i8) (harg4 : arg4.IsWhole) (arg5 : Memref sig .tc .smem S840 .f32) (harg5 : arg5.IsWhole) (arg6 : Memref sig .tc .smem S840 .f32) (harg6 : arg6.IsWhole) (arg7 : Memref sig .tc .vmem S1x1280 .f32) (harg7 : arg7.IsWhole) (arg8 : Memref sig .tc .vmem S1536x1280 .bf16) (harg8 : arg8.IsWhole) (arg9 : Memref sig .tc .vmem S1536x32 .bf16) (harg9 : arg9.IsWhole) (arg10 : Memref sig .tc .vmem S1536x1536 .bf16) (harg10 : arg10.IsWhole) (arg11 : Memref sig .tc .vmem S1792x128 .f32) (harg11 : arg11.IsWhole) (arg12 : Memref sig .tc .vmem S256x1536 .bf16) (harg12 : arg12.IsWhole) (arg13 : Memref sig .tc .vmem S256x1536 .bf16) (harg13 : arg13.IsWhole) (arg14 : Memref sig .tc .vmem S256x1536 .bf16) (harg14 : arg14.IsWhole) (arg15 : Memref sig .tc .vmem S256x1536 .bf16) (harg15 : arg15.IsWhole) (arg16 : Memref sig .tc .vmem S256x1536 .bf16) (harg16 : arg16.IsWhole) (hc0 : ¬cond0_0 i)
    (x0 : Vec F S1536x1536 .bf16) (x1 : Vec F S48x496 .f32) (x2 : Vec F S1280x768 .i8) (x3 : Vec F S1280x24 .i8) (x4 : Vec F S840 .f32) (x5 : Vec F S840 .f32) (x6 : Vec F S1x1280 .f32) (xo8 : Vec F S1536x32 .bf16) (xs0 : Vec F S1536x1536 .bf16) (y : S1536x1280.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xo8 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xo8 xs0).1 S1536x256.size (by sl_kernel_rfl) y

/-- What case B leaves in output 7's staging buffer: its pieces read back over junk. -/
def out0_B_7 (c : Dev nD) (i : grid0.Coords) (arg1 : Memref sig .tc .vmem S1536x1536 .bf16) (harg1 : arg1.IsWhole) (arg2 : Memref sig .tc .vmem S48x496 .f32) (harg2 : arg2.IsWhole) (arg3 : Memref sig .tc .vmem S1280x768 .i8) (harg3 : arg3.IsWhole) (arg4 : Memref sig .tc .vmem S1280x24 .i8) (harg4 : arg4.IsWhole) (arg5 : Memref sig .tc .smem S840 .f32) (harg5 : arg5.IsWhole) (arg6 : Memref sig .tc .smem S840 .f32) (harg6 : arg6.IsWhole) (arg7 : Memref sig .tc .vmem S1x1280 .f32) (harg7 : arg7.IsWhole) (arg8 : Memref sig .tc .vmem S1536x1280 .bf16) (harg8 : arg8.IsWhole) (arg9 : Memref sig .tc .vmem S1536x32 .bf16) (harg9 : arg9.IsWhole) (arg10 : Memref sig .tc .vmem S1536x1536 .bf16) (harg10 : arg10.IsWhole) (arg11 : Memref sig .tc .vmem S1792x128 .f32) (harg11 : arg11.IsWhole) (arg12 : Memref sig .tc .vmem S256x1536 .bf16) (harg12 : arg12.IsWhole) (arg13 : Memref sig .tc .vmem S256x1536 .bf16) (harg13 : arg13.IsWhole) (arg14 : Memref sig .tc .vmem S256x1536 .bf16) (harg14 : arg14.IsWhole) (arg15 : Memref sig .tc .vmem S256x1536 .bf16) (harg15 : arg15.IsWhole) (arg16 : Memref sig .tc .vmem S256x1536 .bf16) (harg16 : arg16.IsWhole) (hc0 : ¬cond0_0 i)
    (x0 : Vec F S1536x1536 .bf16) (x1 : Vec F S48x496 .f32) (x2 : Vec F S1280x768 .i8) (x3 : Vec F S1280x24 .i8) (x4 : Vec F S840 .f32) (x5 : Vec F S840 .f32) (x6 : Vec F S1x1280 .f32) (xo8 : Vec F S1536x32 .bf16) (xs0 : Vec F S1536x1536 .bf16) : Vec F S1536x1280 .bf16 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xo8 xs0).1)

/-- Case B stores nothing into output 8, a live window: its staging buffer holds what the point before left. -/
def out0_B_8 (c : Dev nD) (i : grid0.Coords) (arg1 : Memref sig .tc .vmem S1536x1536 .bf16) (harg1 : arg1.IsWhole) (arg2 : Memref sig .tc .vmem S48x496 .f32) (harg2 : arg2.IsWhole) (arg3 : Memref sig .tc .vmem S1280x768 .i8) (harg3 : arg3.IsWhole) (arg4 : Memref sig .tc .vmem S1280x24 .i8) (harg4 : arg4.IsWhole) (arg5 : Memref sig .tc .smem S840 .f32) (harg5 : arg5.IsWhole) (arg6 : Memref sig .tc .smem S840 .f32) (harg6 : arg6.IsWhole) (arg7 : Memref sig .tc .vmem S1x1280 .f32) (harg7 : arg7.IsWhole) (arg8 : Memref sig .tc .vmem S1536x1280 .bf16) (harg8 : arg8.IsWhole) (arg9 : Memref sig .tc .vmem S1536x32 .bf16) (harg9 : arg9.IsWhole) (arg10 : Memref sig .tc .vmem S1536x1536 .bf16) (harg10 : arg10.IsWhole) (arg11 : Memref sig .tc .vmem S1792x128 .f32) (harg11 : arg11.IsWhole) (arg12 : Memref sig .tc .vmem S256x1536 .bf16) (harg12 : arg12.IsWhole) (arg13 : Memref sig .tc .vmem S256x1536 .bf16) (harg13 : arg13.IsWhole) (arg14 : Memref sig .tc .vmem S256x1536 .bf16) (harg14 : arg14.IsWhole) (arg15 : Memref sig .tc .vmem S256x1536 .bf16) (harg15 : arg15.IsWhole) (arg16 : Memref sig .tc .vmem S256x1536 .bf16) (harg16 : arg16.IsWhole) (hc0 : ¬cond0_0 i)
    (x0 : Vec F S1536x1536 .bf16) (x1 : Vec F S48x496 .f32) (x2 : Vec F S1280x768 .i8) (x3 : Vec F S1280x24 .i8) (x4 : Vec F S840 .f32) (x5 : Vec F S840 .f32) (x6 : Vec F S1x1280 .f32) (xo8 : Vec F S1536x32 .bf16) (xs0 : Vec F S1536x1536 .bf16) : Vec F S1536x32 .bf16 := xo8

/-- Case B stores nothing into scratch `arg10`: it holds what the point before left. -/
def sout0_B_0 (c : Dev nD) (i : grid0.Coords) (arg1 : Memref sig .tc .vmem S1536x1536 .bf16) (harg1 : arg1.IsWhole) (arg2 : Memref sig .tc .vmem S48x496 .f32) (harg2 : arg2.IsWhole) (arg3 : Memref sig .tc .vmem S1280x768 .i8) (harg3 : arg3.IsWhole) (arg4 : Memref sig .tc .vmem S1280x24 .i8) (harg4 : arg4.IsWhole) (arg5 : Memref sig .tc .smem S840 .f32) (harg5 : arg5.IsWhole) (arg6 : Memref sig .tc .smem S840 .f32) (harg6 : arg6.IsWhole) (arg7 : Memref sig .tc .vmem S1x1280 .f32) (harg7 : arg7.IsWhole) (arg8 : Memref sig .tc .vmem S1536x1280 .bf16) (harg8 : arg8.IsWhole) (arg9 : Memref sig .tc .vmem S1536x32 .bf16) (harg9 : arg9.IsWhole) (arg10 : Memref sig .tc .vmem S1536x1536 .bf16) (harg10 : arg10.IsWhole) (arg11 : Memref sig .tc .vmem S1792x128 .f32) (harg11 : arg11.IsWhole) (arg12 : Memref sig .tc .vmem S256x1536 .bf16) (harg12 : arg12.IsWhole) (arg13 : Memref sig .tc .vmem S256x1536 .bf16) (harg13 : arg13.IsWhole) (arg14 : Memref sig .tc .vmem S256x1536 .bf16) (harg14 : arg14.IsWhole) (arg15 : Memref sig .tc .vmem S256x1536 .bf16) (harg15 : arg15.IsWhole) (arg16 : Memref sig .tc .vmem S256x1536 .bf16) (harg16 : arg16.IsWhole) (hc0 : ¬cond0_0 i)
    (x0 : Vec F S1536x1536 .bf16) (x1 : Vec F S48x496 .f32) (x2 : Vec F S1280x768 .i8) (x3 : Vec F S1280x24 .i8) (x4 : Vec F S840 .f32) (x5 : Vec F S840 .f32) (x6 : Vec F S1x1280 .f32) (xo8 : Vec F S1536x32 .bf16) (xs0 : Vec F S1536x1536 .bf16) : Vec F S1536x1536 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1536x1280 .bf16 × Vec F S1536x32 .bf16 × Vec F S1536x1536 .bf16
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 7 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 7 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 7 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Output 8's contents CARRY through the points that leave it idle: at such a point, its buffer not fresh, the proof data's
    `after` is the point before's (the case there stores nothing into the window and its term says so; a case that stores
    into it is not idle there by `liveAt0_8_κ`) — the hypothesis of Lib/Pipeline/TableIdle.lean `Dat.before_out_traj`. -/
theorem hcarry0_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  have hN : t.val < 7 := lt_of_lt_of_eq t.isLt (show cfg0.N = 7 from N_0)
  rw [after0_8, after0_8]
  by_cases h0 : t.val % 7 = 0
  · rw [liveAt0_8_A t ((hcond0_0 t).mpr h0)] at hi
    exact absurd hi Bool.false_ne_true
  · rw [outsAt0_B m c t h0]; rfl
/-- At a point of case B output 8's current staging buffer holds what the point before left: the buffer is not fresh
    there (`notFresh0_8_B`: stored into since the region's entry or the last write-back, carried through the points that
    leave it idle by `hcarry0_8`; Lib/Pipeline/TableIdle.lean `Dat.before_out_traj`). -/
theorem before0_8_B (c : Dev nD) (t : Fin cfg0.N) (h0 : ¬t.val % 7 = 0) (d) :
    (dats m 0 c).before 8 t d = (outsAt0 m c (t.val - 1) (Nat.lt_of_le_of_lt (Nat.sub_le _ _) t.isLt)).2.1 := by
  rw [Dat.before_out_traj _ 8 rfl (fun _ _ => rfl) (hcarry0_8 m c) t.val t rfl d,
    if_neg (by rw [notFresh0_8_B t (fun h => h0 ((hcond0_0 t).mp h))]; exact Bool.false_ne_true)]
  dsimp only [dats]

/-- At a point of case B, output 8's buffer at what the point before left is what the body owes for that window: the
    point leaves the window idle, and its contents are carried, to be written back at the last point. -/
theorem leaves0_8_B (c : Dev nD) (t : Fin cfg0.N) (h0 : ¬t.val % 7 = 0) :
    owns (c : Thread nD τ) (ms0_8 t) fullShare (outsAt0 m c (t.val - 1) (Nat.lt_of_le_of_lt (Nat.sub_le _ _) t.isLt)).2.1 ⊢ (dats m 0 c).leavesExact 8 t := by
  by_cases hf : (cfg0.win 8).flush t = true
  · have e : (dats m 0 c).leavesExact 8 t = owns (c : Thread nD τ) (ms0_8 t) fullShare ((dats m 0 c).after 8 t) := by
      unfold Dat.leavesExact; rw [idleAt0_8_B t (fun h => h0 ((hcond0_0 t).mp h)), hf]
    rw [e, after0_8, outsAt0_B m c t h0]
    exact Entails.refl _
  · rw [Dat.leavesExact_idle _ 8 t (idleAt0_8_B t (fun h => h0 ((hcond0_0 t).mp h))) (by simpa using hf)]
    simp only [before0_8_B m c t h0]
    iintro H
    iexists (outsAt0 m c (t.val - 1) (Nat.lt_of_le_of_lt (Nat.sub_le _ _) t.isLt)).2.1
    iexact H

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 7 := lt_of_lt_of_eq t.isLt (show cfg0.N = 7 from N_0)
  by_cases h0 : t.val % 7 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8_A t ((hcond0_0 t).mpr h0)], after0_8]
    by_cases hz : t.val = 0
    · rw [PhiS_castSucc m c t, PhiS_zero m c _ _ hz, PhiA0_eq]
      rw [outsAt0_A m c t h0]
      unfold out0_A_7 out0_A_8 sout0_A_0; (try dsimp only)
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, ⟨%e7, H7⟩, ⟨%e8, H8⟩, ⟨%es0, HS0⟩, ⟨%fT1, HS1⟩, ⟨%fT2, HS2⟩, ⟨%fT3, HS3⟩, ⟨%fT4, HS4⟩, ⟨%fT5, HS5⟩, ⟨%fT6, HS6⟩⟩
      isplitl [HS0 HS1 HS2 HS3 HS4 HS5 HS6 Hg]
      · isplitl [HS0 HS1 HS2 HS3 HS4 HS5 HS6]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _)
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          isplitl [HS4]
          · iexists _; unfold owns; iexists _; isplitr
            swap; · iexact HS4
            ipureintro; rfl
          isplitl [HS5]
          · iexists _; unfold owns; iexists _; isplitr
            swap; · iexact HS5
            ipureintro; rfl
          iexists _; unfold owns; iexists _; isplitr
          swap; · iexact HS6
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _ _ _ _ _ _ _ _ _)
    · exfalso; have hN : t.val < 7 := lt_of_lt_of_eq t.isLt (show cfg0.N = 7 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    by_cases hz : t.val = 0
    · exfalso; have hN : t.val < 7 := lt_of_lt_of_eq t.isLt (show cfg0.N = 7 from N_0); omega
    · rw [PhiS_castSucc m c t, PhiS_pos m c _ _ hz]
      rw [outsAt0_B m c t h0]
      simp only [before0_8_B m c t h0]
      unfold out0_B_7 sout0_B_0; (try dsimp only)
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _ _).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, ⟨%e7, H7⟩, H8, HS0, HS1, ⟨%fT2, HS2⟩, ⟨%fT3, HS3⟩, ⟨%fT4, HS4⟩, ⟨%fT5, HS5⟩, ⟨%fT6, HS6⟩⟩
      isplitl [HS0 HS1 HS2 HS3 HS4 HS5 HS6 Hg]
      · isplitl [HS0 HS1 HS2 HS3 HS4 HS5 HS6]
        · isplitl [HS0]
          · iexact HS0
          isplitl [HS1]
          · iexact HS1
          isplitl [HS2]
          · iexists _; unfold owns; iexists _; isplitr
            swap; · iexact HS2
            ipureintro; rfl
          isplitl [HS3]
          · iexists _; unfold owns; iexists _; isplitr
            swap; · iexact HS3
            ipureintro; rfl
          isplitl [HS4]
          · iexists _; unfold owns; iexists _; isplitr
            swap; · iexact HS4
            ipureintro; rfl
          isplitl [HS5]
          · iexists _; unfold owns; iexists _; isplitr
            swap; · iexact HS5
            ipureintro; rfl
          iexists _; unfold owns; iexists _; isplitr
          swap; · iexact HS6
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _ _ _ _ _ _ _ _ _)
      iapply (leaves0_8_B m c t h0); iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexact HS1
    isplitl [HS2]
    · iexact HS2
    isplitl [HS3]
    · iexact HS3
    isplitl [HS4]
    · iexact HS4
    isplitl [HS5]
    · iexact HS5
    iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 7 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))
end Cert.KernelIdeal.Run

end
-- ==== Proof.Run.Fold.lean ====
/- What the run leaves in the two results: each result's array, block by block, is what the point that writes the block back
   left in the window, and that is read off the fold of the points' contents from the first point. -/
module

public import proofs.«01_k».proof.Proof.Run.Frame
public import Idealize.ShloMosaic.Lib.Pipeline.Value

@[expose] public section

noncomputable section

namespace Cert.KernelIdeal.Run

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the run's contents for that window after the body (`outsAt0`: its component 0), read through the window's block. -/
theorem flushed7 (c : Dev nD) (t : Fin cfg0.N) :
    (dats m 0 c).flushed 7 t = (cfg0.win 7).cut (grid0.coords t) ((outsAt0 m c t.val t.isLt).1) := by
  show (cfg0.win 7).cut (grid0.coords t) ((dats m 0 c).after 7 t) = _
  rw [after0_7]

/-- … so at a point where case A runs, what its write-back would write is that case's NAMED TERM for the window (`out0_A_7`: the pieces
    its run found, read back) at the point's memrefs and input blocks, and for an output the case reads back what the point before left (`outsAt0` at `t - 1`) — by the frame's rewriting lemma for the case. -/
theorem flushed7_A (c : Dev nD) (t : Fin cfg0.N) (h0 : t.val % 7 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t) (iblk m c 6 t)) := by
  simp only [flushed7, outsAt0_A m c t h0]

/-- … so at a point where case B runs, what its write-back would write is that case's NAMED TERM for the window (`out0_B_7`: the pieces
    its run found, read back) at the point's memrefs and input blocks, and for an output the case reads back what the point before left (`outsAt0` at `t - 1`) — by the frame's rewriting lemma for the case. -/
theorem flushed7_B (c : Dev nD) (t : Fin cfg0.N) (h0 : ¬t.val % 7 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed7, outsAt0_B m c t h0]

/-- The index map sends distinct grid points to distinct block indices (decided over the 7 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S1536x8960.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`outsAt0`: its component 1), read through the window's block. -/
theorem flushed8 (c : Dev nD) (t : Fin cfg0.N) :
    (dats m 0 c).flushed 8 t = (cfg0.win 8).cut (grid0.coords t) ((outsAt0 m c t.val t.isLt).2.1) := by
  show (cfg0.win 8).cut (grid0.coords t) ((dats m 0 c).after 8 t) = _
  rw [after0_8]

/-- … so at a point where case A runs, what its write-back would write is that case's NAMED TERM for the window (`out0_A_8`: the pieces
    its run found, read back) at the point's memrefs and input blocks, and for an output the case reads back what the point before left (`outsAt0` at `t - 1`) — by the frame's rewriting lemma for the case. -/
theorem flushed8_A (c : Dev nD) (t : Fin cfg0.N) (h0 : t.val % 7 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t) (iblk m c 6 t)) := by
  simp only [flushed8, outsAt0_A m c t h0]

/-- … so at a point where case B runs, what its write-back would write is that case's NAMED TERM for the window (`out0_B_8`: the pieces
    its run found, read back) at the point's memrefs and input blocks, and for an output the case reads back what the point before left (`outsAt0` at `t - 1`) — by the frame's rewriting lemma for the case. -/
theorem flushed8_B (c : Dev nD) (t : Fin cfg0.N) (h0 : ¬t.val % 7 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed8, outsAt0_B m c t h0]

-- no `blocks8`: window 8's index map revisits a block index, or its points could not be enumerated here;
-- the final array is still the frame's `arrAt`, to read with Lib/Pipeline/Value.lean's lemmas by hand

/-- An index that no flushing point's block covers keeps output window 8's array contents at region entry. -/
theorem entry8 (c : Dev nD) (i : S1536x32.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v2_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v2_1) = (dats m 0 c).arrAt 8 cfg0.N :=
  (h c).1 8

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 7 cfg0.N
      ∧ r.2.mem ((c : Thread nD τ).loc main_v2_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

/-! ## Carried scratch 0: what each point leaves in it, and its fold -/

/-- What point `n` leaves in carried scratch 0, over what the point before left in it (`acc`): the case the conditions'
    closed forms select at `n`, the frame's own term for it (`sout0_κ_0`; anything else the case takes of the point
    before, another carried scratch or an output it reads back, stays `outsAt0`'s at `n - 1`); a case at the first point
    stores the scratch whole without reading what it held, and `acc` does not enter there (nor where no point meets the
    conditions: `acc`, never read). -/
def scAt0_0 (c : Dev nD) (n : ℕ) (hb : n < cfg0.N) (acc : Vec F S1536x1536 .bf16) : Vec F S1536x1536 .bf16 :=
  if h0 : n % 7 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc

/-- WHAT CARRIED SCRATCH 0 HOLDS after point `t`: the fold of its run up to `t`, from the reset at the run's first point
    `7·(t / 7)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2 = Pipeline.accAt (fun n h => scAt0_0 m c n h (VS0_0.read (Elt F) VS0_0.junk)) (scAt0_0 m c) (7 * (t.val / 7)) (t.val % 7)
      (by have h1 := t.isLt; have h2 := Nat.div_add_mod t.val 7; omega) :=
  Pipeline.eq_accAt_of_mod (fun n h => (outsAt0 m c n h).2.2) 7 (fun n h => scAt0_0 m c n h (VS0_0.read (Elt F) VS0_0.junk)) (scAt0_0 m c)
    (fun n h hn => by
      have hN := lt_of_lt_of_eq h (show cfg0.N = 7 from N_0)
      by_cases h0 : n % 7 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 7 from N_0)
      by_cases h0 : (n + 1) % 7 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 7 from N_0)
  have hd : n / 7 = 0 := Nat.div_eq_of_lt hN
  have hm : n % 7 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1536x1280 .bf16 × Vec F S1536x32 .bf16 × Vec F S1536x1536 .bf16 :=
  ((VO0_7.read (Elt F) VO0_7.junk, VO0_8.read (Elt F) VO0_8.junk, VS0_0.read (Elt F) VS0_0.junk) : Vec F S1536x1280 .bf16 × Vec F S1536x32 .bf16 × Vec F S1536x1536 .bf16)

/-- THE STEP: what point `n` leaves in the named outputs and the carried scratch (`outsAt0`'s tuple), over what the
    point before left (`acc`) — `outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1536x1280 .bf16 × Vec F S1536x32 .bf16 × Vec F S1536x1536 .bf16) : Vec F S1536x1280 .bf16 × Vec F S1536x32 .bf16 × Vec F S1536x1536 .bf16 :=
  if h0 : n % 7 = 0 then
    (out0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), out0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)))
  else
    (out0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.1 acc.2.2, out0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.1 acc.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.1 acc.2.2)

/-- `stAt0` at a point of case A: that case's contents. -/
theorem stAt0_A (c : Dev nD) (t : Fin cfg0.N) (acc : Vec F S1536x1280 .bf16 × Vec F S1536x32 .bf16 × Vec F S1536x1536 .bf16) (h0 : t.val % 7 = 0) :
    stAt0 m c t.val t.isLt acc = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t) (iblk m c 6 t)) :=
  (dif_pos h0).trans rfl

/-- `stAt0` at a point of case B: that case's contents, over `acc`. -/
theorem stAt0_B (c : Dev nD) (t : Fin cfg0.N) (acc : Vec F S1536x1280 .bf16 × Vec F S1536x32 .bf16 × Vec F S1536x1536 .bf16) (h0 : ¬t.val % 7 = 0) :
    stAt0 m c t.val t.isLt acc = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t) (iblk m c 6 t) acc.2.1 acc.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t) (iblk m c 6 t) acc.2.1 acc.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t) (iblk m c 6 t) acc.2.1 acc.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 7 from N_0)
  have e := Pipeline.eq_accAt_of_mod (fun n h => outsAt0 m c n h) 7 (fun n h => stAt0 m c n h junk0) (stAt0 m c)
    (fun n h _ => by
      have hN := lt_of_lt_of_eq h (show cfg0.N = 7 from N_0)
      obtain rfl : n = 0 := by omega
      exact outsAt0_zero m c h)
    (fun n h _ => outsAt0_succ m c n h)
    (by decide) n hn (by have := Nat.div_add_mod n 7; omega)
  have hd : n / 7 = 0 := Nat.div_eq_of_lt hN
  have hm : n % 7 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 7 -/

/-- The block of the array that holds index `i`, numbered in the order the points write the blocks back (one per point),
    `i`'s place in it, and the point that writes it back. -/
abbrev run7Of (i : S1536x8960.Idx) : ℕ := 7 * ((i 0).val / 1536 - 0) + 1 * ((i 1).val / 1280 - 0)
set_option backward.proofsInPublic true in
abbrev loc7Of (i : S1536x8960.Idx) : S1536x1280.Idx := fun a => match a with
  | ⟨0, _⟩ => ⟨(i 0).val % 1536, Nat.mod_lt _ (by decide)⟩
  | ⟨1, _⟩ => ⟨(i 1).val % 1280, Nat.mod_lt _ (by decide)⟩
abbrev pt7Of (i : S1536x8960.Idx) : ℕ := run7Of i

/-- WHAT THE ARRAY ENDS HOLDING at index `i` inside the box the flushing blocks fill: output 7's component of the carried
    state's fold at the point that writes `i`'s block back, at `i`'s place in the block. `G7` states the array's contents
    only inside the box. -/
def G7 (c : Dev nD) : Buf (Elt F) ((c : Thread nD τ).loc main_v2_0) := fun i =>
  if h : pt7Of i < cfg0.N then
    (Pipeline.accAt (fun n h => stAt0 m c n h junk0) (stAt0 m c) 0 (pt7Of i) (by omega)).1 (loc7Of i)
  else V m c (Pipeline.arrRef spec0 7) i

/-- The printed index map, decided over the grid: output window 7's block indices stay in the box, and the block number
    read off them is the point's (`t`). -/
theorem idx_facts7 : ∀ t : Fin cfg0.N, 0 ≤ win0_7.index t (0 : Fin 2) ∧ win0_7.index t (0 : Fin 2) ≤ 0
    ∧ 0 ≤ win0_7.index t (1 : Fin 2) ∧ win0_7.index t (1 : Fin 2) ≤ 6
    ∧ 7 * (win0_7.index t (0 : Fin 2) - 0) + 1 * (win0_7.index t (1 : Fin 2) - 0) = t.val :=
  (by decide +kernel : ∀ t : Fin grid0.N, _)

/-- Every block of the box is SOME flushing point's: `onto7Pt`, the point that writes back the block at place `q` of the box. -/
abbrev onto7Pt (q0 : Fin 1) (q1 : Fin 7) : Fin grid0.N :=
  ⟨7 * q0.val + 1 * q1.val, lt_of_lt_of_eq (by omega) N_0.symm⟩
theorem idx_onto7 : ∀ (q0 : Fin 1) (q1 : Fin 7), ∃ t : Fin cfg0.N, (cfg0.win 7).flush t = true ∧ win0_7.index t = ![q0.val + 0, q1.val + 0] :=
  fun q0 q1 => ⟨onto7Pt q0 q1, (by decide +kernel : ∀ (q0 : Fin 1) (q1 : Fin 7), win0_7.flush (onto7Pt q0 q1) = true ∧ win0_7.index (onto7Pt q0 q1) = ![q0.val + 0, q1.val + 0]) q0 q1⟩

/-- WHAT A FLUSHING POINT `t` WRITES BACK is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  obtain ⟨e0, e1, e2⟩ := idx_facts7 t
  funext y
  have hy0 : (y 0).val < 1536 := (y 0).isLt
  have hy1 : (y 1).val < 1280 := (y 1).isLt
  have hb0 : (((cfg0.win 7).blk t).view.emb y 0).val = win0_7.index t (0 : Fin 2) * 1536 + 1 * (y 0).val := rfl
  have hb1 : (((cfg0.win 7).blk t).view.emb y 1).val = win0_7.index t (1 : Fin 2) * 1280 + 1 * (y 1).val := rfl
  have hr : run7Of (((cfg0.win 7).blk t).view.emb y) = t.val := by
    show 7 * ((((cfg0.win 7).blk t).view.emb y 0).val / 1536 - 0) + 1 * ((((cfg0.win 7).blk t).view.emb y 1).val / 1280 - 0) = _
    rw [hb0, hb1]
    rw [show (win0_7.index t (0 : Fin 2) * 1536 + 1 * (y 0).val) / 1536 = win0_7.index t (0 : Fin 2) from by omega]; rw [show (win0_7.index t (1 : Fin 2) * 1280 + 1 * (y 1).val) / 1280 = win0_7.index t (1 : Fin 2) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 1536 = (y 0).val; rw [hb0]; omega
    | ⟨1, _⟩ => show (((cfg0.win 7).blk t).view.emb y 1).val % 1280 = (y 1).val; rw [hb1]; omega
  have hp : pt7Of (((cfg0.win 7).blk t).view.emb y) = t.val := by
    exact hr
  show (Pipeline.accAt (fun n h => stAt0 m c n h junk0) (stAt0 m c) 0 t.val _).1 ((cfg0.win 7).xinj (grid0.coords t) y) = G7 m c (((cfg0.win 7).blk t).view.emb y)
  unfold G7
  rw [dif_pos (by rw [hp]; exact t.isLt), hl, fold0_congr m c _ _ _ _ hp.symm]

/-- An index of the array is in point `t`'s block iff each coordinate is in the block's range on its axis. -/
theorem mem_blk7 (t : Fin cfg0.N) (i : S1536x8960.Idx) :
    i ∈ ((cfg0.win 7).blk t).view.set ↔ ∀ a : Fin 2, win0_7.index t a * S1536x1280.size a ≤ (i a).val ∧ (i a).val < win0_7.index t a * S1536x1280.size a + S1536x1280.size a := by
  show i ∈ ((View.whole main_v2_0).slice (win0_7.rect t)).set ↔ _
  rw [View.set_slice_whole, Rect.mem_set_unit]
  exact Iff.rfl

/-- THE COVERED INDICES: in some flushing point's block iff inside the box those blocks fill. -/
theorem covered_iff7 (i : S1536x8960.Idx) :
    (∃ t : Fin cfg0.N, (cfg0.win 7).flush t = true ∧ i ∈ ((cfg0.win 7).blk t).view.set) ↔ 0 ≤ (i 0).val ∧ (i 0).val < 1536 ∧ 0 ≤ (i 1).val ∧ (i 1).val < 8960 := by
  constructor
  · rintro ⟨t, -, hi⟩
    rw [mem_blk7] at hi
    have b0 : win0_7.index t (0 : Fin 2) * 1536 ≤ (i 0).val ∧ (i 0).val < win0_7.index t (0 : Fin 2) * 1536 + 1536 := hi 0
    have b1 : win0_7.index t (1 : Fin 2) * 1280 ≤ (i 1).val ∧ (i 1).val < win0_7.index t (1 : Fin 2) * 1280 + 1280 := hi 1
    obtain ⟨e0, e1, e2⟩ := idx_facts7 t
    omega
  · intro h
    have hi0 : (i 0).val < 1536 := (i 0).isLt
    have hi1 : (i 1).val < 8960 := (i 1).isLt
    obtain ⟨t, hft, ht⟩ := idx_onto7 ⟨(i 0).val / 1536 - 0, by omega⟩ ⟨(i 1).val / 1280 - 0, by omega⟩
    have q0 : win0_7.index t (0 : Fin 2) = (i 0).val / 1536 - 0 + 0 := congrFun ht 0
    have q1 : win0_7.index t (1 : Fin 2) = (i 1).val / 1280 - 0 + 0 := congrFun ht 1
    refine ⟨t, hft, ?_⟩
    rw [mem_blk7]
    intro a
    match a with
    | ⟨0, _⟩ => show win0_7.index t (0 : Fin 2) * 1536 ≤ (i 0).val ∧ (i 0).val < win0_7.index t (0 : Fin 2) * 1536 + 1536; omega
    | ⟨1, _⟩ => show win0_7.index t (1 : Fin 2) * 1280 ≤ (i 1).val ∧ (i 1).val < win0_7.index t (1 : Fin 2) * 1280 + 1280; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 1536 := (i 0).isLt; have h1 : (i 1).val < 8960 := (i 1).isLt; omega))

/-! ## Output window 8 -/

/-- The block of the array that holds index `i`, numbered in the order the points write the blocks back (one every 7 points),
    `i`'s place in it, and the point that writes it back (the last of its 7). -/
abbrev run8Of (i : S1536x32.Idx) : ℕ := 1 * ((i 0).val / 1536 - 0) + 1 * ((i 1).val / 32 - 0)
set_option backward.proofsInPublic true in
abbrev loc8Of (i : S1536x32.Idx) : S1536x32.Idx := fun a => match a with
  | ⟨0, _⟩ => ⟨(i 0).val % 1536, Nat.mod_lt _ (by decide)⟩
  | ⟨1, _⟩ => ⟨(i 1).val % 32, Nat.mod_lt _ (by decide)⟩
abbrev pt8Of (i : S1536x32.Idx) : ℕ := 7 * run8Of i + 6

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v2_1) := fun i =>
  if h : pt8Of i < cfg0.N then
    (Pipeline.accAt (fun n h => stAt0 m c n h junk0) (stAt0 m c) 0 (pt8Of i) (by omega)).2.1 (loc8Of i)
  else V m c (Pipeline.arrRef spec0 8) i

/-- The printed index map, decided over the grid: output window 8's block indices stay in the box, and the block number
    read off them is the point's (`t / 7`). -/
theorem idx_facts8 : ∀ t : Fin cfg0.N, 0 ≤ win0_8.index t (0 : Fin 2) ∧ win0_8.index t (0 : Fin 2) ≤ 0
    ∧ 0 ≤ win0_8.index t (1 : Fin 2) ∧ win0_8.index t (1 : Fin 2) ≤ 0
    ∧ 1 * (win0_8.index t (0 : Fin 2) - 0) + 1 * (win0_8.index t (1 : Fin 2) - 0) = t.val / 7 :=
  (by decide +kernel : ∀ t : Fin grid0.N, _)

/-- Every block of the box is SOME flushing point's: `onto8Pt`, the point that writes back the block at place `q` of the box (the last point of its run). -/
abbrev onto8Pt (q0 : Fin 1) (q1 : Fin 1) : Fin grid0.N :=
  ⟨7 * (1 * q0.val + 1 * q1.val) + 6, lt_of_lt_of_eq (by omega) N_0.symm⟩
theorem idx_onto8 : ∀ (q0 : Fin 1) (q1 : Fin 1), ∃ t : Fin cfg0.N, (cfg0.win 8).flush t = true ∧ win0_8.index t = ![q0.val + 0, q1.val + 0] :=
  fun q0 q1 => ⟨onto8Pt q0 q1, (by decide +kernel : ∀ (q0 : Fin 1) (q1 : Fin 1), win0_8.flush (onto8Pt q0 q1) = true ∧ win0_8.index (onto8Pt q0 q1) = ![q0.val + 0, q1.val + 0]) q0 q1⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  have hm : t.val % 7 = 6 := (flush0_8 t).mp hf
  obtain ⟨e0, e1, e2⟩ := idx_facts8 t
  funext y
  have hy0 : (y 0).val < 1536 := (y 0).isLt
  have hy1 : (y 1).val < 32 := (y 1).isLt
  have hb0 : (((cfg0.win 8).blk t).view.emb y 0).val = win0_8.index t (0 : Fin 2) * 1536 + 1 * (y 0).val := rfl
  have hb1 : (((cfg0.win 8).blk t).view.emb y 1).val = win0_8.index t (1 : Fin 2) * 32 + 1 * (y 1).val := rfl
  have hr : run8Of (((cfg0.win 8).blk t).view.emb y) = t.val / 7 := by
    show 1 * ((((cfg0.win 8).blk t).view.emb y 0).val / 1536 - 0) + 1 * ((((cfg0.win 8).blk t).view.emb y 1).val / 32 - 0) = _
    rw [hb0, hb1]
    rw [show (win0_8.index t (0 : Fin 2) * 1536 + 1 * (y 0).val) / 1536 = win0_8.index t (0 : Fin 2) from by omega]; rw [show (win0_8.index t (1 : Fin 2) * 32 + 1 * (y 1).val) / 32 = win0_8.index t (1 : Fin 2) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 1536 = (y 0).val; rw [hb0]; omega
    | ⟨1, _⟩ => show (((cfg0.win 8).blk t).view.emb y 1).val % 32 = (y 1).val; rw [hb1]; omega
  have hp : pt8Of (((cfg0.win 8).blk t).view.emb y) = t.val := by
    show 7 * run8Of (((cfg0.win 8).blk t).view.emb y) + 6 = _
    rw [hr]; have := Nat.div_add_mod t.val 7; omega
  show (Pipeline.accAt (fun n h => stAt0 m c n h junk0) (stAt0 m c) 0 t.val _).2.1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S1536x32.Idx) :
    i ∈ ((cfg0.win 8).blk t).view.set ↔ ∀ a : Fin 2, win0_8.index t a * S1536x32.size a ≤ (i a).val ∧ (i a).val < win0_8.index t a * S1536x32.size a + S1536x32.size a := by
  show i ∈ ((View.whole main_v2_1).slice (win0_8.rect t)).set ↔ _
  rw [View.set_slice_whole, Rect.mem_set_unit]
  exact Iff.rfl

/-- THE COVERED INDICES: in some flushing point's block iff inside the box those blocks fill. -/
theorem covered_iff8 (i : S1536x32.Idx) :
    (∃ t : Fin cfg0.N, (cfg0.win 8).flush t = true ∧ i ∈ ((cfg0.win 8).blk t).view.set) ↔ 0 ≤ (i 0).val ∧ (i 0).val < 1536 ∧ 0 ≤ (i 1).val ∧ (i 1).val < 32 := by
  constructor
  · rintro ⟨t, -, hi⟩
    rw [mem_blk8] at hi
    have b0 : win0_8.index t (0 : Fin 2) * 1536 ≤ (i 0).val ∧ (i 0).val < win0_8.index t (0 : Fin 2) * 1536 + 1536 := hi 0
    have b1 : win0_8.index t (1 : Fin 2) * 32 ≤ (i 1).val ∧ (i 1).val < win0_8.index t (1 : Fin 2) * 32 + 32 := hi 1
    obtain ⟨e0, e1, e2⟩ := idx_facts8 t
    omega
  · intro h
    have hi0 : (i 0).val < 1536 := (i 0).isLt
    have hi1 : (i 1).val < 32 := (i 1).isLt
    obtain ⟨t, hft, ht⟩ := idx_onto8 ⟨(i 0).val / 1536 - 0, by omega⟩ ⟨(i 1).val / 32 - 0, by omega⟩
    have q0 : win0_8.index t (0 : Fin 2) = (i 0).val / 1536 - 0 + 0 := congrFun ht 0
    have q1 : win0_8.index t (1 : Fin 2) = (i 1).val / 32 - 0 + 0 := congrFun ht 1
    refine ⟨t, hft, ?_⟩
    rw [mem_blk8]
    intro a
    match a with
    | ⟨0, _⟩ => show win0_8.index t (0 : Fin 2) * 1536 ≤ (i 0).val ∧ (i 0).val < win0_8.index t (0 : Fin 2) * 1536 + 1536; omega
    | ⟨1, _⟩ => show win0_8.index t (1 : Fin 2) * 32 ≤ (i 1).val ∧ (i 1).val < win0_8.index t (1 : Fin 2) * 32 + 32; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 1536 := (i 0).isLt; have h1 : (i 1).val < 32 := (i 1).isLt; omega))

/-- Output 8 is written back ONCE, at the last point, and its block is its array: the array after the run is output 8's
    component of the fold over the whole grid — where a hand proof over this window starts. -/
theorem G8_last (c : Dev nD) :
    G8 m c = (Pipeline.accAt (fun n h => stAt0 m c n h junk0) (stAt0 m c) 0 6 (lt_of_lt_of_eq (by decide) N_0.symm)).2.1 := by
  funext i
  have hi0 : (i 0).val < 1536 := (i 0).isLt
  have hi1 : (i 1).val < 32 := (i 1).isLt
  have hp : pt8Of i = 6 := by
    show 7 * (1 * ((i 0).val / 1536 - 0) + 1 * ((i 1).val / 32 - 0)) + 6 = _
    omega
  have hl : loc8Of i = i := by
    funext a; apply Fin.ext
    match a with
    | ⟨0, _⟩ => show (i 0).val % 1536 = (i 0).val; omega
    | ⟨1, _⟩ => show (i 1).val % 32 = (i 1).val; omega
  unfold G8
  rw [dif_pos (by rw [hp]; exact lt_of_lt_of_eq (by decide) N_0.symm), hl, fold0_congr m c _ _ _ _ hp]

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v2_0) = G7 m c
      ∧ r.2.mem ((c : Thread nD τ).loc main_v2_1) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post7 m r h c).trans (final7 m c),
      (post8 m r h c).trans (final8 m c),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.KernelIdeal.Run

end
-- ==== Proof.Run.Same.lean ====
/- The frame of the kernel itself. The idealization rewrote no operation, so the kernel and its idealization are the same
   program under two names, and the frame, which is proved for any float values, holds of both. -/
module

public import proofs.«01_k».proof.Defs
public import proofs.«01_k».proof.Proof.Gen.Kernel
public import proofs.«01_k».proof.Proof.Run.Frame

@[expose] public section

set_option maxRecDepth 100000

noncomputable section

namespace Cert.Kernel.Run

open Idealize.ShloMosaic Idealize.SL.Sem

/-- The two programs' kernel bodies are the same: at every label, point and staging buffer. -/
theorem same_bodies : (Cert.Kernel.defs₀ (F := Bits) :
      Defs Cert.KernelIdeal.nD Cert.KernelIdeal.τ Cert.KernelIdeal.sig (Elt Bits) Cert.KernelIdeal.Λ₀)
    = Cert.KernelIdeal.defs₀ (F := Bits) := by
  unfold Cert.Kernel.defs₀ Cert.KernelIdeal.defs₀
  refine congrArg Defs.onTc (funext fun l => funext fun a => ?_)
  match l, a with
  | 0, (t, s) => exact rfl

/-- So are their whole body tables. -/
theorem same_defs : (Cert.Kernel.defs (F := Bits) :
      Defs Cert.KernelIdeal.nD Cert.KernelIdeal.τ Cert.KernelIdeal.sig (Elt Bits)
        (Pipeline.Sig Cert.KernelIdeal.Λ₀ (Fin 1) fun p => (Cert.KernelIdeal.pcfgs (F := Bits) p).Adm))
    = Cert.KernelIdeal.defs (F := Bits) :=
  congrArg (Pipeline.defs (Cert.KernelIdeal.pcfgs (F := Bits))) same_bodies

set_option maxHeartbeats 4000000 in
/-- The kernel runs, leaves its arguments and ends with every counter at zero. -/
theorem frame : Cert.quiescent_Kernel := by
  intro m ρ _
  have h := Cert.KernelIdeal.Run.frame (F := Bits) m ρ
  rw [← same_defs] at h
  exact h

end Cert.Kernel.Run

end
-- ==== Proof.Value.Spec.lean ====
/- The mathematics both programs are read into: every element as a formula over the extended reals, the arrays read at
   plain natural numbers. -/
module

public import Idealize.ShloMosaic.Lib.ValueIdx
public import Idealize.ShloMosaic.PureOps.Ideal.Laws

@[expose] public section

set_option maxRecDepth 16384

noncomputable section

namespace Cert.Spec

open Idealize.ShloMosaic Idealize.ShloMosaic.ValueIdx
open scoped BigOperators

/-! ## Arrays read at natural numbers -/

/-- A vector read at a number. -/
def at1 {α : Type} {n0 : ℕ} [NeZero n0] (x : (⟨1, ![n0]⟩ : Shape).Idx → α) (a : ℕ) : α :=
  x (ix1 (Fin.ofNat n0 a))
/-- A matrix read at two numbers. -/
def at2 {α : Type} {n0 n1 : ℕ} [NeZero n0] [NeZero n1] (x : (⟨2, ![n0, n1]⟩ : Shape).Idx → α) (a b : ℕ) : α :=
  x (ix2 (Fin.ofNat n0 a) (Fin.ofNat n1 b))
/-- A rank-3 array read at three numbers. -/
def at3 {α : Type} {n0 n1 n2 : ℕ} [NeZero n0] [NeZero n1] [NeZero n2] (x : (⟨3, ![n0, n1, n2]⟩ : Shape).Idx → α)
    (a b c : ℕ) : α :=
  x (ix3 (Fin.ofNat n0 a) (Fin.ofNat n1 b) (Fin.ofNat n2 c))

theorem ofNat_val {n : ℕ} [NeZero n] (a : Fin n) : Fin.ofNat n a.val = a :=
  Fin.ext (Nat.mod_eq_of_lt a.isLt)

/-- An element of a vector is the vector read at its coordinate. -/
theorem eq_at1 {α : Type} {n0 : ℕ} [NeZero n0] (x : (⟨1, ![n0]⟩ : Shape).Idx → α) (i : (⟨1, ![n0]⟩ : Shape).Idx)
    {a : ℕ} (ha : (i 0).val = a) : x i = at1 x a := by
  subst ha
  unfold at1
  congr 1
  funext d
  match d with
  | ⟨0, _⟩ => exact (ofNat_val (n := n0) (i 0)).symm
/-- An element of a matrix is the matrix read at its coordinates. -/
theorem eq_at2 {α : Type} {n0 n1 : ℕ} [NeZero n0] [NeZero n1] (x : (⟨2, ![n0, n1]⟩ : Shape).Idx → α)
    (i : (⟨2, ![n0, n1]⟩ : Shape).Idx) {a b : ℕ} (ha : (i 0).val = a) (hb : (i 1).val = b) : x i = at2 x a b := by
  subst ha hb
  unfold at2
  congr 1
  funext d
  match d with
  | ⟨0, _⟩ => exact (ofNat_val (n := n0) (i 0)).symm
  | ⟨1, _⟩ => exact (ofNat_val (n := n1) (i 1)).symm
/-- An element of a rank-3 array is the array read at its coordinates. -/
theorem eq_at3 {α : Type} {n0 n1 n2 : ℕ} [NeZero n0] [NeZero n1] [NeZero n2] (x : (⟨3, ![n0, n1, n2]⟩ : Shape).Idx → α)
    (i : (⟨3, ![n0, n1, n2]⟩ : Shape).Idx) {a b c : ℕ} (ha : (i 0).val = a) (hb : (i 1).val = b) (hc : (i 2).val = c) :
    x i = at3 x a b c := by
  subst ha hb hc
  unfold at3
  congr 1
  funext d
  match d with
  | ⟨0, _⟩ => exact (ofNat_val (n := n0) (i 0)).symm
  | ⟨1, _⟩ => exact (ofNat_val (n := n1) (i 1)).symm
  | ⟨2, _⟩ => exact (ofNat_val (n := n2) (i 2)).symm

/-! ## The rotation -/

abbrev Ten2 (a b : ℕ) := (⟨2, ![a, b]⟩ : Shape).Idx → EReal

/-- The place of the entry above the diagonal at `(i, j)` in a block's packed row. -/
def tri (i j : ℕ) : ℕ := 31 * i - i * (i - 1) / 2 + (j - (i + 1))

/-- The strict upper triangle of block `n`. -/
def up (s : Ten2 48 496) (n a b : ℕ) : EReal := if a < b then at2 s n (tri a b) else 0
/-- The skew-symmetric matrix of block `n`. -/
def skew (s : Ten2 48 496) (n a b : ℕ) : EReal := up s n a b - up s n b a
/-- Its square, cube and fourth power. -/
def skew2 (s : Ten2 48 496) (n a b : ℕ) : EReal := ∑ k : Fin 32, skew s n a k.val * skew s n k.val b
def skew3 (s : Ten2 48 496) (n a b : ℕ) : EReal := ∑ k : Fin 32, skew2 s n a k.val * skew s n k.val b
def skew4 (s : Ten2 48 496) (n a b : ℕ) : EReal := ∑ k : Fin 32, skew2 s n a k.val * skew2 s n k.val b
/-- The number two, as the programs write it. -/
def two : EReal := Ideal.ofBits .f32 0x40000000#32
/-- The rotation minus the identity. -/
def rot (s : Ten2 48 496) (n a b : ℕ) : EReal :=
  two * (skew s n a b + skew2 s n a b + skew3 s n a b + skew4 s n a b)
/-- The rotated activations: row `m`, channel `c`. -/
def xrot (x : (⟨3, ![6, 256, 1536]⟩ : Shape).Idx → EReal) (s : Ten2 48 496) (m c : ℕ) : EReal :=
  at3 x (m / 256) (m % 256) c
    + ∑ k : Fin 32, rot s (c / 32) k.val (c % 32) * at3 x (m / 256) (m % 256) (32 * (c / 32) + k.val)

/-! ## The weights -/

/-- The code book. -/
def nf4 : ℕ → EReal
  | 0 => Ideal.ofBits .f32 0xBF800000#32
  | 1 => Ideal.ofBits .f32 0xBF3239B1#32
  | 2 => Ideal.ofBits .f32 0xBF066B30#32
  | 3 => Ideal.ofBits .f32 0xBECA32A0#32
  | 4 => Ideal.ofBits .f32 0xBE91A24D#32
  | 5 => Ideal.ofBits .f32 0xBE3D353F#32
  | 6 => Ideal.ofBits .f32 0xBDBA7871#32
  | 7 => Ideal.ofBits .f32 0x00000000#32
  | 8 => Ideal.ofBits .f32 0x3DA2FAFF#32
  | 9 => Ideal.ofBits .f32 0x3E24CAE3#32
  | 10 => Ideal.ofBits .f32 0x3E7C04DD#32
  | 11 => Ideal.ofBits .f32 0x3EAD033A#32
  | 12 => Ideal.ofBits .f32 0x3EE1A4B8#32
  | 13 => Ideal.ofBits .f32 0x3F1007AB#32
  | 14 => Ideal.ofBits .f32 0x3F3913B3#32
  | _ => Ideal.ofBits .f32 0x3F800000#32

/-- The scale of row `o`, block `g`, decoded from its code and its group's scale and mean. -/
def scale (a : (⟨2, ![8960, 24]⟩ : Shape).Idx → BitVec 8) (sc mn : (⟨1, ![840]⟩ : Shape).Idx → EReal) (o g : ℕ) : EReal :=
  (((at2 a o g).signExtend 32).toInt : ℝ) * at1 sc ((24 * o + g) / 256) + at1 mn ((24 * o + g) / 256)
/-- The low code of byte `(o, c)`, and the high one. -/
def lowCode (w : (⟨2, ![8960, 768]⟩ : Shape).Idx → BitVec 8) (o c : ℕ) : ℕ := (at2 w o c).toNat % 16
def highCode (w : (⟨2, ![8960, 768]⟩ : Shape).Idx → BitVec 8) (o c : ℕ) : ℕ := (at2 w o c).toNat / 16

/-- Row `m`, column `o` of the product. -/
def out (x : (⟨3, ![6, 256, 1536]⟩ : Shape).Idx → EReal) (s : Ten2 48 496)
    (w : (⟨2, ![8960, 768]⟩ : Shape).Idx → BitVec 8) (a : (⟨2, ![8960, 24]⟩ : Shape).Idx → BitVec 8)
    (sc mn : (⟨1, ![840]⟩ : Shape).Idx → EReal) (b : (⟨1, ![8960]⟩ : Shape).Idx → EReal) (m o : ℕ) : EReal :=
  (∑ c : Fin 768, xrot x s m (2 * c.val) * (nf4 (lowCode w o c.val) * scale a sc mn o (c.val / 32)))
    + (∑ c : Fin 768, xrot x s m (2 * c.val + 1) * (nf4 (highCode w o c.val) * scale a sc mn o (c.val / 32)))
    + at1 b o

end Cert.Spec

end
-- ==== Proof.Value.RefTri.lean ====
/- The reference program read at an index: its skew matrix, its rotation and its rotated activations are the formulas
   of `Value/Spec.lean`. -/
module

public import proofs.«01_k».proof.Proof.Gen.ReferenceIdeal.Read
public import proofs.«01_k».proof.Proof.Value.Spec
public import Idealize.ShloMosaic.Lib.Pipeline.ValueKit.Tiles

@[expose] public section

set_option maxRecDepth 16384

noncomputable section

namespace Cert.ReferenceIdeal.RefValue

open Cert.ReferenceIdeal Cert.ReferenceIdeal.Gen Cert.ReferenceIdeal.Read Cert.Spec
open Idealize.ShloMosaic Idealize.ShloMosaic.ValueIdx Idealize.ShloMosaic.StableHlo
open scoped BigOperators

/-! ## The strict upper triangle, row by row -/

/-- A row of the triangle: `z = i + 1` zeros, then the next `l` packed entries from `f` on. -/
theorem tri_row {z l : ℕ} (i f : ℕ) (hz : z = i + 1) (hl : z + l = 32) (hf : f = 31 * i - i * (i - 1) / 2)
    (s : Ten2 48 496) (A : (⟨2, ![48, z]⟩ : Shape).Idx → EReal) (B : (⟨2, ![48, l]⟩ : Shape).Idx → EReal)
    {h : Shape.Concatenates [⟨2, ![48, z]⟩, ⟨2, ![48, l]⟩] S48x32 1}
    (hA : ∀ j, A j = 0) (hB : ∀ j, B j = at2 s (j 0).val (f + (j 1).val)) (j : S48x32.Idx) :
    concatenate S48x32 1 [⟨⟨2, ![48, z]⟩, A⟩, ⟨⟨2, ![48, l]⟩, B⟩] h j = up s (j 0).val i (j 1).val := by
  have h1 : (j 1).val < 32 := (j 1).isLt
  unfold up
  by_cases hc : i < (j 1).val
  · have e := concatenate_pair_apply_right (1 : Fin S48x32.rank) A B h j rfl rfl
      (ix2 (j 0) ⟨(j 1).val - z, by omega⟩)
      (fun b hb => by
        match b with
        | ⟨0, _⟩ => rfl
        | ⟨1, _⟩ => exact absurd rfl hb)
      (by show (j 1).val - z + z = (j 1).val; omega)
    rw [if_pos hc, e, hB]
    show at2 s (j 0).val (f + ((j 1).val - z)) = at2 s (j 0).val (tri i (j 1).val)
    congr 1
    unfold tri
    omega
  · rw [if_neg hc, concatenate_pair_apply_left (1 : Fin S48x32.rank) A B h j rfl
      (ix2 (j 0) ⟨(j 1).val, by omega⟩) (fun b => ?_), hA]
    match b with
    | ⟨0, _⟩ => rfl
    | ⟨1, _⟩ => rfl

theorem row0 (x1 : Ten2 48 496) (j : S48x32.Idx) : val_main_v2 (F := Ideal) x1 j = up x1 (j 0).val 0 (j 1).val :=
  tri_row (z := 1) (l := 31) 0 0 rfl rfl rfl _ _ _ (fun _ => (val_main_v1_apply (F := Ideal) _).trans Ideal.ofBits_zero_f32)
    (fun j => (val_main_v0_apply (F := Ideal) x1 j).trans (eq_at2 x1 _ rfl (Nat.zero_add _).symm)) j
theorem row1 (x1 : Ten2 48 496) (j : S48x32.Idx) : val_main_v5 (F := Ideal) x1 j = up x1 (j 0).val 1 (j 1).val :=
  tri_row (z := 2) (l := 30) 1 31 rfl rfl rfl _ _ _ (fun _ => (val_main_v4_apply (F := Ideal) _).trans Ideal.ofBits_zero_f32)
    (fun j => (val_main_v3_apply (F := Ideal) x1 j).trans (eq_at2 x1 _ rfl rfl)) j
theorem row2 (x1 : Ten2 48 496) (j : S48x32.Idx) : val_main_v8 (F := Ideal) x1 j = up x1 (j 0).val 2 (j 1).val :=
  tri_row (z := 3) (l := 29) 2 61 rfl rfl rfl _ _ _ (fun _ => (val_main_v7_apply (F := Ideal) _).trans Ideal.ofBits_zero_f32)
    (fun j => (val_main_v6_apply (F := Ideal) x1 j).trans (eq_at2 x1 _ rfl rfl)) j
theorem row3 (x1 : Ten2 48 496) (j : S48x32.Idx) : val_main_v11 (F := Ideal) x1 j = up x1 (j 0).val 3 (j 1).val :=
  tri_row (z := 4) (l := 28) 3 90 rfl rfl rfl _ _ _ (fun _ => (val_main_v10_apply (F := Ideal) _).trans Ideal.ofBits_zero_f32)
    (fun j => (val_main_v9_apply (F := Ideal) x1 j).trans (eq_at2 x1 _ rfl rfl)) j
theorem row4 (x1 : Ten2 48 496) (j : S48x32.Idx) : val_main_v14 (F := Ideal) x1 j = up x1 (j 0).val 4 (j 1).val :=
  tri_row (z := 5) (l := 27) 4 118 rfl rfl rfl _ _ _ (fun _ => (val_main_v13_apply (F := Ideal) _).trans Ideal.ofBits_zero_f32)
    (fun j => (val_main_v12_apply (F := Ideal) x1 j).trans (eq_at2 x1 _ rfl rfl)) j
theorem row5 (x1 : Ten2 48 496) (j : S48x32.Idx) : val_main_v17 (F := Ideal) x1 j = up x1 (j 0).val 5 (j 1).val :=
  tri_row (z := 6) (l := 26) 5 145 rfl rfl rfl _ _ _ (fun _ => (val_main_v16_apply (F := Ideal) _).trans Ideal.ofBits_zero_f32)
    (fun j => (val_main_v15_apply (F := Ideal) x1 j).trans (eq_at2 x1 _ rfl rfl)) j
theorem row6 (x1 : Ten2 48 496) (j : S48x32.Idx) : val_main_v20 (F := Ideal) x1 j = up x1 (j 0).val 6 (j 1).val :=
  tri_row (z := 7) (l := 25) 6 171 rfl rfl rfl _ _ _ (fun _ => (val_main_v19_apply (F := Ideal) _).trans Ideal.ofBits_zero_f32)
    (fun j => (val_main_v18_apply (F := Ideal) x1 j).trans (eq_at2 x1 _ rfl rfl)) j
theorem row7 (x1 : Ten2 48 496) (j : S48x32.Idx) : val_main_v23 (F := Ideal) x1 j = up x1 (j 0).val 7 (j 1).val :=
  tri_row (z := 8) (l := 24) 7 196 rfl rfl rfl _ _ _ (fun _ => (val_main_v22_apply (F := Ideal) _).trans Ideal.ofBits_zero_f32)
    (fun j => (val_main_v21_apply (F := Ideal) x1 j).trans (eq_at2 x1 _ rfl rfl)) j
theorem row8 (x1 : Ten2 48 496) (j : S48x32.Idx) : val_main_v26 (F := Ideal) x1 j = up x1 (j 0).val 8 (j 1).val :=
  tri_row (z := 9) (l := 23) 8 220 rfl rfl rfl _ _ _ (fun _ => (val_main_v25_apply (F := Ideal) _).trans Ideal.ofBits_zero_f32)
    (fun j => (val_main_v24_apply (F := Ideal) x1 j).trans (eq_at2 x1 _ rfl rfl)) j
theorem row9 (x1 : Ten2 48 496) (j : S48x32.Idx) : val_main_v29 (F := Ideal) x1 j = up x1 (j 0).val 9 (j 1).val :=
  tri_row (z := 10) (l := 22) 9 243 rfl rfl rfl _ _ _ (fun _ => (val_main_v28_apply (F := Ideal) _).trans Ideal.ofBits_zero_f32)
    (fun j => (val_main_v27_apply (F := Ideal) x1 j).trans (eq_at2 x1 _ rfl rfl)) j
theorem row10 (x1 : Ten2 48 496) (j : S48x32.Idx) : val_main_v32 (F := Ideal) x1 j = up x1 (j 0).val 10 (j 1).val :=
  tri_row (z := 11) (l := 21) 10 265 rfl rfl rfl _ _ _ (fun _ => (val_main_v31_apply (F := Ideal) _).trans Ideal.ofBits_zero_f32)
    (fun j => (val_main_v30_apply (F := Ideal) x1 j).trans (eq_at2 x1 _ rfl rfl)) j
theorem row11 (x1 : Ten2 48 496) (j : S48x32.Idx) : val_main_v35 (F := Ideal) x1 j = up x1 (j 0).val 11 (j 1).val :=
  tri_row (z := 12) (l := 20) 11 286 rfl rfl rfl _ _ _ (fun _ => (val_main_v34_apply (F := Ideal) _).trans Ideal.ofBits_zero_f32)
    (fun j => (val_main_v33_apply (F := Ideal) x1 j).trans (eq_at2 x1 _ rfl rfl)) j
theorem row12 (x1 : Ten2 48 496) (j : S48x32.Idx) : val_main_v38 (F := Ideal) x1 j = up x1 (j 0).val 12 (j 1).val :=
  tri_row (z := 13) (l := 19) 12 306 rfl rfl rfl _ _ _ (fun _ => (val_main_v37_apply (F := Ideal) _).trans Ideal.ofBits_zero_f32)
    (fun j => (val_main_v36_apply (F := Ideal) x1 j).trans (eq_at2 x1 _ rfl rfl)) j
theorem row13 (x1 : Ten2 48 496) (j : S48x32.Idx) : val_main_v41 (F := Ideal) x1 j = up x1 (j 0).val 13 (j 1).val :=
  tri_row (z := 14) (l := 18) 13 325 rfl rfl rfl _ _ _ (fun _ => (val_main_v40_apply (F := Ideal) _).trans Ideal.ofBits_zero_f32)
    (fun j => (val_main_v39_apply (F := Ideal) x1 j).trans (eq_at2 x1 _ rfl rfl)) j
theorem row14 (x1 : Ten2 48 496) (j : S48x32.Idx) : val_main_v44 (F := Ideal) x1 j = up x1 (j 0).val 14 (j 1).val :=
  tri_row (z := 15) (l := 17) 14 343 rfl rfl rfl _ _ _ (fun _ => (val_main_v43_apply (F := Ideal) _).trans Ideal.ofBits_zero_f32)
    (fun j => (val_main_v42_apply (F := Ideal) x1 j).trans (eq_at2 x1 _ rfl rfl)) j
theorem row15 (x1 : Ten2 48 496) (j : S48x32.Idx) : val_main_v47 (F := Ideal) x1 j = up x1 (j 0).val 15 (j 1).val :=
  tri_row (z := 16) (l := 16) 15 360 rfl rfl rfl _ _ _ (fun _ => (val_main_v46_apply (F := Ideal) _).trans Ideal.ofBits_zero_f32)
    (fun j => (val_main_v45_apply (F := Ideal) x1 j).trans (eq_at2 x1 _ rfl rfl)) j
theorem row16 (x1 : Ten2 48 496) (j : S48x32.Idx) : val_main_v50 (F := Ideal) x1 j = up x1 (j 0).val 16 (j 1).val :=
  tri_row (z := 17) (l := 15) 16 376 rfl rfl rfl _ _ _ (fun _ => (val_main_v49_apply (F := Ideal) _).trans Ideal.ofBits_zero_f32)
    (fun j => (val_main_v48_apply (F := Ideal) x1 j).trans (eq_at2 x1 _ rfl rfl)) j
theorem row17 (x1 : Ten2 48 496) (j : S48x32.Idx) : val_main_v53 (F := Ideal) x1 j = up x1 (j 0).val 17 (j 1).val :=
  tri_row (z := 18) (l := 14) 17 391 rfl rfl rfl _ _ _ (fun _ => (val_main_v52_apply (F := Ideal) _).trans Ideal.ofBits_zero_f32)
    (fun j => (val_main_v51_apply (F := Ideal) x1 j).trans (eq_at2 x1 _ rfl rfl)) j
theorem row18 (x1 : Ten2 48 496) (j : S48x32.Idx) : val_main_v56 (F := Ideal) x1 j = up x1 (j 0).val 18 (j 1).val :=
  tri_row (z := 19) (l := 13) 18 405 rfl rfl rfl _ _ _ (fun _ => (val_main_v55_apply (F := Ideal) _).trans Ideal.ofBits_zero_f32)
    (fun j => (val_main_v54_apply (F := Ideal) x1 j).trans (eq_at2 x1 _ rfl rfl)) j
theorem row19 (x1 : Ten2 48 496) (j : S48x32.Idx) : val_main_v59 (F := Ideal) x1 j = up x1 (j 0).val 19 (j 1).val :=
  tri_row (z := 20) (l := 12) 19 418 rfl rfl rfl _ _ _ (fun _ => (val_main_v58_apply (F := Ideal) _).trans Ideal.ofBits_zero_f32)
    (fun j => (val_main_v57_apply (F := Ideal) x1 j).trans (eq_at2 x1 _ rfl rfl)) j
theorem row20 (x1 : Ten2 48 496) (j : S48x32.Idx) : val_main_v62 (F := Ideal) x1 j = up x1 (j 0).val 20 (j 1).val :=
  tri_row (z := 21) (l := 11) 20 430 rfl rfl rfl _ _ _ (fun _ => (val_main_v61_apply (F := Ideal) _).trans Ideal.ofBits_zero_f32)
    (fun j => (val_main_v60_apply (F := Ideal) x1 j).trans (eq_at2 x1 _ rfl rfl)) j
theorem row21 (x1 : Ten2 48 496) (j : S48x32.Idx) : val_main_v65 (F := Ideal) x1 j = up x1 (j 0).val 21 (j 1).val :=
  tri_row (z := 22) (l := 10) 21 441 rfl rfl rfl _ _ _ (fun _ => (val_main_v64_apply (F := Ideal) _).trans Ideal.ofBits_zero_f32)
    (fun j => (val_main_v63_apply (F := Ideal) x1 j).trans (eq_at2 x1 _ rfl rfl)) j
theorem row22 (x1 : Ten2 48 496) (j : S48x32.Idx) : val_main_v68 (F := Ideal) x1 j = up x1 (j 0).val 22 (j 1).val :=
  tri_row (z := 23) (l := 9) 22 451 rfl rfl rfl _ _ _ (fun _ => (val_main_v67_apply (F := Ideal) _).trans Ideal.ofBits_zero_f32)
    (fun j => (val_main_v66_apply (F := Ideal) x1 j).trans (eq_at2 x1 _ rfl rfl)) j
theorem row23 (x1 : Ten2 48 496) (j : S48x32.Idx) : val_main_v71 (F := Ideal) x1 j = up x1 (j 0).val 23 (j 1).val :=
  tri_row (z := 24) (l := 8) 23 460 rfl rfl rfl _ _ _ (fun _ => (val_main_v70_apply (F := Ideal) _).trans Ideal.ofBits_zero_f32)
    (fun j => (val_main_v69_apply (F := Ideal) x1 j).trans (eq_at2 x1 _ rfl rfl)) j
theorem row24 (x1 : Ten2 48 496) (j : S48x32.Idx) : val_main_v74 (F := Ideal) x1 j = up x1 (j 0).val 24 (j 1).val :=
  tri_row (z := 25) (l := 7) 24 468 rfl rfl rfl _ _ _ (fun _ => (val_main_v73_apply (F := Ideal) _).trans Ideal.ofBits_zero_f32)
    (fun j => (val_main_v72_apply (F := Ideal) x1 j).trans (eq_at2 x1 _ rfl rfl)) j
theorem row25 (x1 : Ten2 48 496) (j : S48x32.Idx) : val_main_v77 (F := Ideal) x1 j = up x1 (j 0).val 25 (j 1).val :=
  tri_row (z := 26) (l := 6) 25 475 rfl rfl rfl _ _ _ (fun _ => (val_main_v76_apply (F := Ideal) _).trans Ideal.ofBits_zero_f32)
    (fun j => (val_main_v75_apply (F := Ideal) x1 j).trans (eq_at2 x1 _ rfl rfl)) j
theorem row26 (x1 : Ten2 48 496) (j : S48x32.Idx) : val_main_v80 (F := Ideal) x1 j = up x1 (j 0).val 26 (j 1).val :=
  tri_row (z := 27) (l := 5) 26 481 rfl rfl rfl _ _ _ (fun _ => (val_main_v79_apply (F := Ideal) _).trans Ideal.ofBits_zero_f32)
    (fun j => (val_main_v78_apply (F := Ideal) x1 j).trans (eq_at2 x1 _ rfl rfl)) j
theorem row27 (x1 : Ten2 48 496) (j : S48x32.Idx) : val_main_v83 (F := Ideal) x1 j = up x1 (j 0).val 27 (j 1).val :=
  tri_row (z := 28) (l := 4) 27 486 rfl rfl rfl _ _ _ (fun _ => (val_main_v82_apply (F := Ideal) _).trans Ideal.ofBits_zero_f32)
    (fun j => (val_main_v81_apply (F := Ideal) x1 j).trans (eq_at2 x1 _ rfl rfl)) j
theorem row28 (x1 : Ten2 48 496) (j : S48x32.Idx) : val_main_v86 (F := Ideal) x1 j = up x1 (j 0).val 28 (j 1).val :=
  tri_row (z := 29) (l := 3) 28 490 rfl rfl rfl _ _ _ (fun _ => (val_main_v85_apply (F := Ideal) _).trans Ideal.ofBits_zero_f32)
    (fun j => (val_main_v84_apply (F := Ideal) x1 j).trans (eq_at2 x1 _ rfl rfl)) j
theorem row29 (x1 : Ten2 48 496) (j : S48x32.Idx) : val_main_v89 (F := Ideal) x1 j = up x1 (j 0).val 29 (j 1).val :=
  tri_row (z := 30) (l := 2) 29 493 rfl rfl rfl _ _ _ (fun _ => (val_main_v88_apply (F := Ideal) _).trans Ideal.ofBits_zero_f32)
    (fun j => (val_main_v87_apply (F := Ideal) x1 j).trans (eq_at2 x1 _ rfl rfl)) j
theorem row30 (x1 : Ten2 48 496) (j : S48x32.Idx) : val_main_v92 (F := Ideal) x1 j = up x1 (j 0).val 30 (j 1).val :=
  tri_row (z := 31) (l := 1) 30 495 rfl rfl rfl _ _ _ (fun _ => (val_main_v91_apply (F := Ideal) _).trans Ideal.ofBits_zero_f32)
    (fun j => (val_main_v90_apply (F := Ideal) x1 j).trans (eq_at2 x1 _ rfl rfl)) j
theorem row31 (x1 : Ten2 48 496) (j : S48x32.Idx) : val_main_v93 (F := Ideal) j = up x1 (j 0).val 31 (j 1).val := by
  have h1 : (j 1).val < 32 := (j 1).isLt
  unfold up
  rw [if_neg (by omega)]
  exact (val_main_v93_apply (F := Ideal) _).trans Ideal.ofBits_zero_f32

end Cert.ReferenceIdeal.RefValue

end
-- ==== Proof.Value.RefRot.lean ====
/- The reference program read at an index: its skew matrix, its rotation and its rotated activations are the formulas
   of `Value/Spec.lean`. -/
module

public import proofs.«01_k».proof.Proof.Value.RefTri

@[expose] public section

set_option maxRecDepth 16384

noncomputable section

namespace Cert.ReferenceIdeal.RefValue

open Cert.ReferenceIdeal Cert.ReferenceIdeal.Gen Cert.ReferenceIdeal.Read Cert.Spec
open Idealize.ShloMosaic Idealize.ShloMosaic.ValueIdx Idealize.ShloMosaic.StableHlo
open scoped BigOperators

theorem up_congr (s : Ten2 48 496) {n n' a a' b b' : ℕ} (hn : n = n') (ha : a = a') (hb : b = b') :
    up s n a b = up s n' a' b' := by subst hn ha hb; rfl

/-- The first sixteen rows stacked … -/
theorem stack_lo (x1 : Ten2 48 496) (j : S48x16x32.Idx) :
    val_main_v126 (F := Ideal) x1 j = up x1 (j 0).val (0 + (j 1).val) (j 2).val := by
  unfold val_main_v126
  concat_tiles i h
  · exact (val_main_v94_apply (F := Ideal) x1 i).trans ((row0 x1 _).trans (up_congr x1 (by show (i 0).val = (j 0).val; omega) (by omega) (by show (i 2).val = (j 2).val; omega)))
  · exact (val_main_v95_apply (F := Ideal) x1 i).trans ((row1 x1 _).trans (up_congr x1 (by show (i 0).val = (j 0).val; omega) (by omega) (by show (i 2).val = (j 2).val; omega)))
  · exact (val_main_v96_apply (F := Ideal) x1 i).trans ((row2 x1 _).trans (up_congr x1 (by show (i 0).val = (j 0).val; omega) (by omega) (by show (i 2).val = (j 2).val; omega)))
  · exact (val_main_v97_apply (F := Ideal) x1 i).trans ((row3 x1 _).trans (up_congr x1 (by show (i 0).val = (j 0).val; omega) (by omega) (by show (i 2).val = (j 2).val; omega)))
  · exact (val_main_v98_apply (F := Ideal) x1 i).trans ((row4 x1 _).trans (up_congr x1 (by show (i 0).val = (j 0).val; omega) (by omega) (by show (i 2).val = (j 2).val; omega)))
  · exact (val_main_v99_apply (F := Ideal) x1 i).trans ((row5 x1 _).trans (up_congr x1 (by show (i 0).val = (j 0).val; omega) (by omega) (by show (i 2).val = (j 2).val; omega)))
  · exact (val_main_v100_apply (F := Ideal) x1 i).trans ((row6 x1 _).trans (up_congr x1 (by show (i 0).val = (j 0).val; omega) (by omega) (by show (i 2).val = (j 2).val; omega)))
  · exact (val_main_v101_apply (F := Ideal) x1 i).trans ((row7 x1 _).trans (up_congr x1 (by show (i 0).val = (j 0).val; omega) (by omega) (by show (i 2).val = (j 2).val; omega)))
  · exact (val_main_v102_apply (F := Ideal) x1 i).trans ((row8 x1 _).trans (up_congr x1 (by show (i 0).val = (j 0).val; omega) (by omega) (by show (i 2).val = (j 2).val; omega)))
  · exact (val_main_v103_apply (F := Ideal) x1 i).trans ((row9 x1 _).trans (up_congr x1 (by show (i 0).val = (j 0).val; omega) (by omega) (by show (i 2).val = (j 2).val; omega)))
  · exact (val_main_v104_apply (F := Ideal) x1 i).trans ((row10 x1 _).trans (up_congr x1 (by show (i 0).val = (j 0).val; omega) (by omega) (by show (i 2).val = (j 2).val; omega)))
  · exact (val_main_v105_apply (F := Ideal) x1 i).trans ((row11 x1 _).trans (up_congr x1 (by show (i 0).val = (j 0).val; omega) (by omega) (by show (i 2).val = (j 2).val; omega)))
  · exact (val_main_v106_apply (F := Ideal) x1 i).trans ((row12 x1 _).trans (up_congr x1 (by show (i 0).val = (j 0).val; omega) (by omega) (by show (i 2).val = (j 2).val; omega)))
  · exact (val_main_v107_apply (F := Ideal) x1 i).trans ((row13 x1 _).trans (up_congr x1 (by show (i 0).val = (j 0).val; omega) (by omega) (by show (i 2).val = (j 2).val; omega)))
  · exact (val_main_v108_apply (F := Ideal) x1 i).trans ((row14 x1 _).trans (up_congr x1 (by show (i 0).val = (j 0).val; omega) (by omega) (by show (i 2).val = (j 2).val; omega)))
  · exact (val_main_v109_apply (F := Ideal) x1 i).trans ((row15 x1 _).trans (up_congr x1 (by show (i 0).val = (j 0).val; omega) (by omega) (by show (i 2).val = (j 2).val; omega)))

/-- … the other sixteen … -/
theorem stack_hi (x1 : Ten2 48 496) (j : S48x16x32.Idx) :
    val_main_v127 (F := Ideal) x1 j = up x1 (j 0).val (16 + (j 1).val) (j 2).val := by
  unfold val_main_v127
  concat_tiles i h
  · exact (val_main_v110_apply (F := Ideal) x1 i).trans ((row16 x1 _).trans (up_congr x1 (by show (i 0).val = (j 0).val; omega) (by omega) (by show (i 2).val = (j 2).val; omega)))
  · exact (val_main_v111_apply (F := Ideal) x1 i).trans ((row17 x1 _).trans (up_congr x1 (by show (i 0).val = (j 0).val; omega) (by omega) (by show (i 2).val = (j 2).val; omega)))
  · exact (val_main_v112_apply (F := Ideal) x1 i).trans ((row18 x1 _).trans (up_congr x1 (by show (i 0).val = (j 0).val; omega) (by omega) (by show (i 2).val = (j 2).val; omega)))
  · exact (val_main_v113_apply (F := Ideal) x1 i).trans ((row19 x1 _).trans (up_congr x1 (by show (i 0).val = (j 0).val; omega) (by omega) (by show (i 2).val = (j 2).val; omega)))
  · exact (val_main_v114_apply (F := Ideal) x1 i).trans ((row20 x1 _).trans (up_congr x1 (by show (i 0).val = (j 0).val; omega) (by omega) (by show (i 2).val = (j 2).val; omega)))
  · exact (val_main_v115_apply (F := Ideal) x1 i).trans ((row21 x1 _).trans (up_congr x1 (by show (i 0).val = (j 0).val; omega) (by omega) (by show (i 2).val = (j 2).val; omega)))
  · exact (val_main_v116_apply (F := Ideal) x1 i).trans ((row22 x1 _).trans (up_congr x1 (by show (i 0).val = (j 0).val; omega) (by omega) (by show (i 2).val = (j 2).val; omega)))
  · exact (val_main_v117_apply (F := Ideal) x1 i).trans ((row23 x1 _).trans (up_congr x1 (by show (i 0).val = (j 0).val; omega) (by omega) (by show (i 2).val = (j 2).val; omega)))
  · exact (val_main_v118_apply (F := Ideal) x1 i).trans ((row24 x1 _).trans (up_congr x1 (by show (i 0).val = (j 0).val; omega) (by omega) (by show (i 2).val = (j 2).val; omega)))
  · exact (val_main_v119_apply (F := Ideal) x1 i).trans ((row25 x1 _).trans (up_congr x1 (by show (i 0).val = (j 0).val; omega) (by omega) (by show (i 2).val = (j 2).val; omega)))
  · exact (val_main_v120_apply (F := Ideal) x1 i).trans ((row26 x1 _).trans (up_congr x1 (by show (i 0).val = (j 0).val; omega) (by omega) (by show (i 2).val = (j 2).val; omega)))
  · exact (val_main_v121_apply (F := Ideal) x1 i).trans ((row27 x1 _).trans (up_congr x1 (by show (i 0).val = (j 0).val; omega) (by omega) (by show (i 2).val = (j 2).val; omega)))
  · exact (val_main_v122_apply (F := Ideal) x1 i).trans ((row28 x1 _).trans (up_congr x1 (by show (i 0).val = (j 0).val; omega) (by omega) (by show (i 2).val = (j 2).val; omega)))
  · exact (val_main_v123_apply (F := Ideal) x1 i).trans ((row29 x1 _).trans (up_congr x1 (by show (i 0).val = (j 0).val; omega) (by omega) (by show (i 2).val = (j 2).val; omega)))
  · exact (val_main_v124_apply (F := Ideal) x1 i).trans ((row30 x1 _).trans (up_congr x1 (by show (i 0).val = (j 0).val; omega) (by omega) (by show (i 2).val = (j 2).val; omega)))
  · exact (val_main_v125_apply (F := Ideal) i).trans ((row31 x1 _).trans (up_congr x1 (by show (i 0).val = (j 0).val; omega) (by omega) (by show (i 2).val = (j 2).val; omega)))

/-- … and all of them. -/
theorem upper (x1 : Ten2 48 496) (j : S48x32x32.Idx) :
    val_main_v128 (F := Ideal) x1 j = up x1 (j 0).val (j 1).val (j 2).val := by
  have h1 : (j 1).val < 32 := (j 1).isLt
  unfold val_main_v128
  by_cases hc : (j 1).val < 16
  · have e := concatenate_pair_apply_left (1 : Fin S48x32x32.rank) (val_main_v126 (F := Ideal) x1) (val_main_v127 (F := Ideal) x1)
      concatenates_S48x16x32_S48x16x32_S48x32x32_d1 j rfl (ix3 (j 0) ⟨(j 1).val, hc⟩ (j 2))
      (fun b => by
        match b with
        | ⟨0, _⟩ => rfl
        | ⟨1, _⟩ => rfl
        | ⟨2, _⟩ => rfl)
    exact e.trans ((stack_lo x1 _).trans (up_congr x1 rfl (by show 0 + (j 1).val = _; omega) rfl))
  · have e := concatenate_pair_apply_right (1 : Fin S48x32x32.rank) (val_main_v126 (F := Ideal) x1) (val_main_v127 (F := Ideal) x1)
      concatenates_S48x16x32_S48x16x32_S48x32x32_d1 j rfl rfl (ix3 (j 0) ⟨(j 1).val - 16, by omega⟩ (j 2))
      (fun b hb => by
        match b with
        | ⟨0, _⟩ => rfl
        | ⟨1, _⟩ => exact absurd rfl hb
        | ⟨2, _⟩ => rfl)
      (by show (j 1).val - 16 + 16 = (j 1).val; omega)
    exact e.trans ((stack_hi x1 _).trans (up_congr x1 rfl (by show 16 + ((j 1).val - 16) = _; omega) rfl))

/-! ## The rotation -/

theorem skew_apply (x1 : Ten2 48 496) (j : S48x32x32.Idx) :
    val_main_v130 (F := Ideal) x1 j = skew x1 (j 0).val (j 1).val (j 2).val := by
  rw [val_main_v130_apply, upper, val_main_v129_apply, upper]
  rfl

theorem skew2_apply (x1 : Ten2 48 496) (j : S48x32x32.Idx) :
    val_main_v131 (F := Ideal) x1 j = skew2 x1 (j 0).val (j 1).val (j 2).val := by
  rw [val_main_v131_apply]
  refine Finset.sum_congr rfl fun k _ => ?_
  rw [skew_apply, skew_apply]

theorem skew3_apply (x1 : Ten2 48 496) (j : S48x32x32.Idx) :
    val_main_v132 (F := Ideal) x1 j = skew3 x1 (j 0).val (j 1).val (j 2).val := by
  rw [val_main_v132_apply]
  refine Finset.sum_congr rfl fun k _ => ?_
  rw [skew_apply, skew2_apply]

theorem skew4_apply (x1 : Ten2 48 496) (j : S48x32x32.Idx) :
    val_main_v133 (F := Ideal) x1 j = skew4 x1 (j 0).val (j 1).val (j 2).val := by
  rw [val_main_v133_apply]
  refine Finset.sum_congr rfl fun k _ => ?_
  rw [skew2_apply, skew2_apply]

theorem rot_apply (x1 : Ten2 48 496) (j : S48x32x32.Idx) :
    val_main_v139 (F := Ideal) x1 j = rot x1 (j 0).val (j 1).val (j 2).val := by
  rw [val_main_v139_apply, val_main_v138_apply, val_main_v137_apply, val_main_v136_apply, val_main_v135_apply,
    val_main_v134_apply, skew_apply, skew2_apply, skew3_apply, skew4_apply]
  rfl

theorem rot_congr (s : Ten2 48 496) {n n' a a' b b' : ℕ} (hn : n = n') (ha : a = a') (hb : b = b') :
    rot s n a b = rot s n' a' b' := by subst hn ha hb; rfl

/-- The second result: block `n`'s rotation in rows `32 n …`. -/
theorem delta_apply (x1 : Ten2 48 496) (j : S1536x32.Idx) :
    val_main_v245 (F := Ideal) x1 j = rot x1 ((j 0).val / 32) ((j 0).val % 32) (j 1).val := by
  have h0 : (j 0).val < 1536 := (j 0).isLt
  have h1 : (j 1).val < 32 := (j 1).isLt
  rw [val_main_v245_apply, rot_apply]
  exact rot_congr x1 (by show ((j 0).val * 32 + (j 1).val) / 1024 = _; omega)
    (by show ((j 0).val * 32 + (j 1).val) / 32 % 32 = _; omega) (by show ((j 0).val * 32 + (j 1).val) % 32 = _; omega)

/-! ## The rotated activations -/

theorem xblocks_apply (x0 : (⟨3, ![6, 256, 1536]⟩ : Shape).Idx → EReal) (j : S6x256x48x32.Idx) :
    val_main_v140 (F := Ideal) x0 j = at3 x0 (j 0).val (j 1).val (32 * (j 2).val + (j 3).val) := by
  have h0 : (j 0).val < 6 := (j 0).isLt
  have h1 : (j 1).val < 256 := (j 1).isLt
  have h2 : (j 2).val < 48 := (j 2).isLt
  have h3 : (j 3).val < 32 := (j 3).isLt
  rw [val_main_v140_apply]
  exact eq_at3 x0 _ (by show ((((j 0).val * 256 + (j 1).val) * 48 + (j 2).val) * 32 + (j 3).val) / 393216 = _; omega)
    (by show ((((j 0).val * 256 + (j 1).val) * 48 + (j 2).val) * 32 + (j 3).val) / 1536 % 256 = _; omega)
    (by show ((((j 0).val * 256 + (j 1).val) * 48 + (j 2).val) * 32 + (j 3).val) % 1536 = _; omega)

theorem xrot_congr (x : (⟨3, ![6, 256, 1536]⟩ : Shape).Idx → EReal) (s : Ten2 48 496) {m m' c c' : ℕ} (hm : m = m') (hc : c = c') :
    xrot x s m c = xrot x s m' c' := by subst hm hc; rfl

theorem xrot_apply (x0 : (⟨3, ![6, 256, 1536]⟩ : Shape).Idx → EReal) (x1 : Ten2 48 496) (j : S6x256x48x32.Idx) :
    val_main_v145 (F := Ideal) x0 x1 j = xrot x0 x1 (256 * (j 0).val + (j 1).val) (32 * (j 2).val + (j 3).val) := by
  have h1 : (j 1).val < 256 := (j 1).isLt
  have h3 : (j 3).val < 32 := (j 3).isLt
  have e1 : (256 * (j 0).val + (j 1).val) / 256 = (j 0).val := by omega
  have e2 : (256 * (j 0).val + (j 1).val) % 256 = (j 1).val := by omega
  have e3 : (32 * (j 2).val + (j 3).val) / 32 = (j 2).val := by omega
  have e4 : (32 * (j 2).val + (j 3).val) % 32 = (j 3).val := by omega
  unfold xrot
  rw [e1, e2, e3, e4, val_main_v145_apply, val_main_v144_apply, val_main_v143_apply, xblocks_apply, val_main_v142_apply,
    val_main_v141_apply]
  refine congrArg₂ (· + ·) rfl (Finset.sum_congr rfl fun k _ => ?_)
  rw [rot_apply, xblocks_apply]

/-- Channels `64 q + 2 l + f`: pair `(q, l)`, side `f`. -/
theorem xpairs_apply (x0 : (⟨3, ![6, 256, 1536]⟩ : Shape).Idx → EReal) (x1 : Ten2 48 496) (j : S6x256x24x32x2.Idx) :
    val_main_v146 (F := Ideal) x0 x1 j
      = xrot x0 x1 (256 * (j 0).val + (j 1).val) (2 * (32 * (j 2).val + (j 3).val) + (j 4).val) := by
  have h0 : (j 0).val < 6 := (j 0).isLt
  have h1 : (j 1).val < 256 := (j 1).isLt
  have h2 : (j 2).val < 24 := (j 2).isLt
  have h3 : (j 3).val < 32 := (j 3).isLt
  have h4 : (j 4).val < 2 := (j 4).isLt
  rw [val_main_v146_apply, xrot_apply]
  refine xrot_congr x0 x1 ?_ ?_
  · show 256 * ((((((j 0).val * 256 + (j 1).val) * 24 + (j 2).val) * 32 + (j 3).val) * 2 + (j 4).val) / 393216)
      + (((((j 0).val * 256 + (j 1).val) * 24 + (j 2).val) * 32 + (j 3).val) * 2 + (j 4).val) / 1536 % 256 = _
    omega
  · show 32 * ((((((j 0).val * 256 + (j 1).val) * 24 + (j 2).val) * 32 + (j 3).val) * 2 + (j 4).val) / 32 % 48)
      + (((((j 0).val * 256 + (j 1).val) * 24 + (j 2).val) * 32 + (j 3).val) * 2 + (j 4).val) % 32 = _
    omega

end Cert.ReferenceIdeal.RefValue

end
-- ==== Proof.Value.Words.lean ====
/- The integer words of the two programs: the codes taken out of a byte, the decode of a code, and the lane's block. -/
module

public import proofs.«01_k».proof.Proof.Value.Spec
public import Idealize.ShloMosaic.PureOps

@[expose] public section

set_option maxRecDepth 16384

noncomputable section

namespace Cert.Spec

open Idealize.ShloMosaic Idealize.ShloMosaic.ValueIdx

/-- A byte's low four bits, as a word. -/
theorem low_word (b : BitVec 8) : IntOp.andi (b.setWidth 32) 15#32 = BitVec.ofNat 32 (b.toNat % 16) := by
  obtain ⟨k⟩ := b
  revert k
  decide +kernel

/-- A byte's high four bits, as a word: the host's shift … -/
theorem high_word_host (b : BitVec 8) : IntOp.shrsi .host (b.setWidth 32) 4#32 = BitVec.ofNat 32 (b.toNat / 16) := by
  show (if _ then _ else _) = _
  rw [if_pos (by decide)]
  obtain ⟨k⟩ := b
  revert k
  decide +kernel

/-- … and the vector unit's. -/
theorem high_word (b : BitVec 8) : IntOp.shrsi .vector (b.setWidth 32) 4#32 = BitVec.ofNat 32 (b.toNat / 16) :=
  high_word_host b

theorem low_lt (b : BitVec 8) : b.toNat % 16 < 16 := Nat.mod_lt _ (by decide)
theorem high_lt (b : BitVec 8) : b.toNat / 16 < 16 := by have := b.isLt; omega

/-- The host's decode of a code: bit by bit, from the highest. -/
def pick (c : BitVec 32) (base : ℕ) : ℕ → EReal
  | 0 => nf4 base
  | l + 1 => Scalar.select (IntOp.cmpi .ne (IntOp.andi c (BitVec.ofNat 32 (2 ^ l))) 0#32) (pick c (base + 2 ^ l) l) (pick c base l)

theorem pick_eq (k : ℕ) (hk : k < 16) : pick (BitVec.ofNat 32 k) 0 4 = nf4 k := by
  interval_cases k <;> rfl

/-- A negative index counts from the end; every index here is already in range. -/
def wrap (x : BitVec 32) : BitVec 32 := Scalar.select (IntOp.cmpi .slt x 0#32) (IntOp.addi x 128#32) x

theorem wrap_eq (k : ℕ) (hk : k < 128) : wrap (BitVec.ofNat 32 k) = BitVec.ofNat 32 k := by
  have h : ∀ k : Fin 128, wrap (BitVec.ofNat 32 k.val) = BitVec.ofNat 32 k.val := by decide +kernel
  exact h ⟨k, hk⟩

/-- A lane divided by 32 and rounded down, as the kernel spells it. -/
def floorDiv (x c : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt c 0#32)) (Scalar.extui (Scalar.cmpi .slt c 0#32))))
      (IntOp.cmpi .ne (IntOp.remsi .vector x c) 0#32))
    (IntOp.subi (IntOp.divsi .vector x c) 1#32) (IntOp.divsi .vector x c)

/-- The scale block of lane `l` in lane block `j`. -/
theorem lane_block (j l : ℕ) (hj : j < 6) (hl : l < 128) :
    wrap (IntOp.addi (floorDiv (BitVec.ofNat 32 l) 32#32) (BitVec.ofNat 32 (4 * j))) = BitVec.ofNat 32 (4 * j + l / 32) := by
  have h : ∀ (l : Fin 128) (j : Fin 6), wrap (IntOp.addi (floorDiv (BitVec.ofNat 32 l.val) 32#32) (BitVec.ofNat 32 (4 * j.val)))
      = BitVec.ofNat 32 (4 * j.val + l.val / 32) := by decide +kernel
  exact h ⟨l, hl⟩ ⟨j, hj⟩

/-- A select between the three groups of a chunk, on a number below the chunk's `768`. -/
theorem select3 {α : Type} (p : ℕ) (hp : p < 768) (x y z : α) :
    Scalar.select (IntOp.cmpi .slt (BitVec.ofNat 32 p) 256#32) x
      (Scalar.select (IntOp.cmpi .slt (BitVec.ofNat 32 p) 512#32) y z)
      = if p < 256 then x else if p < 512 then y else z := by
  have h1 : ∀ p : Fin 768, IntOp.cmpi .slt (BitVec.ofNat 32 p.val) 256#32 = if p.val < 256 then 1#1 else 0#1 := by decide +kernel
  have h2 : ∀ p : Fin 768, IntOp.cmpi .slt (BitVec.ofNat 32 p.val) 512#32 = if p.val < 512 then 1#1 else 0#1 := by decide +kernel
  rw [h1 ⟨p, hp⟩, h2 ⟨p, hp⟩]
  split <;> split <;> simp_all [Scalar.select]

end Cert.Spec

end
-- ==== Proof.Value.RefOut.lean ====
/- The reference program read at an index: its decoded weights and its product are the formulas of `Value/Spec.lean`. -/
module

public import proofs.«01_k».proof.Proof.Value.RefRot
public import proofs.«01_k».proof.Proof.Value.Words

@[expose] public section

set_option maxRecDepth 16384

noncomputable section

namespace Cert.ReferenceIdeal.RefValue

open Cert.ReferenceIdeal Cert.ReferenceIdeal.Gen Cert.ReferenceIdeal.Read Cert.Spec
open Idealize.ShloMosaic Idealize.ShloMosaic.ValueIdx Idealize.ShloMosaic.StableHlo
open scoped BigOperators

abbrev Bytes := (⟨2, ![8960, 768]⟩ : Shape).Idx → BitVec 8
abbrev Scales := (⟨2, ![8960, 24]⟩ : Shape).Idx → BitVec 8
abbrev Row (n : ℕ) := (⟨1, ![n]⟩ : Shape).Idx → EReal

/-! ## The scales -/

theorem groups_apply (a : Scales) (j : S840x256.Idx) :
    val_main_v147 (F := Ideal) a j = at2 a ((256 * (j 0).val + (j 1).val) / 24) ((256 * (j 0).val + (j 1).val) % 24) := by
  rw [val_main_v147_apply]
  exact eq_at2 a _ (by show ((j 0).val * 256 + (j 1).val) / 24 = _; omega) (by show ((j 0).val * 256 + (j 1).val) % 24 = _; omega)

theorem scale_apply (a : Scales) (sc mn : Row 840) (j : S8960x24.Idx) :
    val_main_v156 (F := Ideal) a sc mn j = scale a sc mn (j 0).val (j 1).val := by
  have h0 : (j 0).val < 8960 := (j 0).isLt
  have h1 : (j 1).val < 24 := (j 1).isLt
  rw [val_main_v156_apply, val_main_v155_apply, val_main_v152_apply, val_main_v149_apply, val_main_v148_apply, groups_apply,
    val_main_v151_apply, val_main_v150_apply, val_main_v154_apply, val_main_v153_apply]
  have e1 : (256 * (((j 0).val * 24 + (j 1).val) / 256) + ((j 0).val * 24 + (j 1).val) % 256) / 24 = (j 0).val := by omega
  have e2 : (256 * (((j 0).val * 24 + (j 1).val) / 256) + ((j 0).val * 24 + (j 1).val) % 256) % 24 = (j 1).val := by omega
  have e3 : ((j 0).val * 24 + (j 1).val) / 256 = (24 * (j 0).val + (j 1).val) / 256 := by omega
  unfold scale
  refine congrArg₂ (· + ·) (congrArg₂ (· * ·) ?_ ?_) ?_
  · show (((BitVec.signExtend 32 (at2 a ((256 * (((j 0).val * 24 + (j 1).val) / 256) + ((j 0).val * 24 + (j 1).val) % 256) / 24)
      ((256 * (((j 0).val * 24 + (j 1).val) / 256) + ((j 0).val * 24 + (j 1).val) % 256) % 24))).toInt : ℝ) : EReal) = _
    rw [e1, e2]
  · exact eq_at1 sc _ e3
  · exact eq_at1 mn _ e3

/-! ## The codes -/

theorem word_apply (w : Bytes) (j : S8960x24x32.Idx) :
    val_main_v158 (F := Ideal) w j = (at2 w (j 0).val (32 * (j 1).val + (j 2).val)).setWidth 32 := by
  have h0 : (j 0).val < 8960 := (j 0).isLt
  have h1 : (j 1).val < 24 := (j 1).isLt
  have h2 : (j 2).val < 32 := (j 2).isLt
  rw [val_main_v158_apply, val_main_v157_apply]
  exact congrArg (BitVec.setWidth 32) (eq_at2 w _ (by show (((j 0).val * 24 + (j 1).val) * 32 + (j 2).val) / 768 = _; omega)
    (by show (((j 0).val * 24 + (j 1).val) * 32 + (j 2).val) % 768 = _; omega))

theorem low_apply (w : Bytes) (j : S8960x24x32.Idx) :
    val_main_v193 (F := Ideal) w j = nf4 (lowCode w (j 0).val (32 * (j 1).val + (j 2).val)) := by
  have e : val_main_v193 (F := Ideal) w j = pick (IntOp.andi (val_main_v158 (F := Ideal) w j) 15#32) 0 4 := rfl
  rw [e, word_apply, low_word, pick_eq _ (low_lt _)]
  rfl

theorem high_apply (w : Bytes) (j : S8960x24x32.Idx) :
    val_main_v228 (F := Ideal) w j = nf4 (highCode w (j 0).val (32 * (j 1).val + (j 2).val)) := by
  have e : val_main_v228 (F := Ideal) w j = pick (IntOp.shrsi .host (val_main_v158 (F := Ideal) w j) 4#32) 0 4 := rfl
  rw [e, word_apply, high_word_host, pick_eq _ (high_lt _)]
  rfl

theorem wlow_apply (w : Bytes) (a : Scales) (sc mn : Row 840) (j : S8960x24x32.Idx) :
    val_main_v197 (F := Ideal) w a sc mn j
      = nf4 (lowCode w (j 0).val (32 * (j 1).val + (j 2).val)) * scale a sc mn (j 0).val (j 1).val := by
  rw [val_main_v197_apply, val_main_v196_apply, low_apply, val_main_v195_apply, val_main_v194_apply, scale_apply]
  rfl

theorem whigh_apply (w : Bytes) (a : Scales) (sc mn : Row 840) (j : S8960x24x32.Idx) :
    val_main_v232 (F := Ideal) w a sc mn j
      = nf4 (highCode w (j 0).val (32 * (j 1).val + (j 2).val)) * scale a sc mn (j 0).val (j 1).val := by
  rw [val_main_v232_apply, val_main_v231_apply, high_apply, val_main_v230_apply, val_main_v229_apply, scale_apply]
  rfl

/-! ## The two sides of the channel pairs -/

theorem xlow_apply (x : (⟨3, ![6, 256, 1536]⟩ : Shape).Idx → EReal) (s : Ten2 48 496) (j : S6x256x24x32.Idx) :
    val_main_v234 (F := Ideal) x s j = xrot x s (256 * (j 0).val + (j 1).val) (2 * (32 * (j 2).val + (j 3).val)) := by
  have h0 : (j 0).val < 6 := (j 0).isLt
  have h1 : (j 1).val < 256 := (j 1).isLt
  have h2 : (j 2).val < 24 := (j 2).isLt
  have h3 : (j 3).val < 32 := (j 3).isLt
  rw [val_main_v234_apply, val_main_v233_apply, xpairs_apply]
  refine xrot_congr x s ?_ ?_
  · show 256 * (((((j 0).val * 256 + (j 1).val) * 24 + (j 2).val) * 32 + (j 3).val) / 196608)
      + ((((j 0).val * 256 + (j 1).val) * 24 + (j 2).val) * 32 + (j 3).val) / 768 % 256 = _
    omega
  · show 2 * (32 * (((((j 0).val * 256 + (j 1).val) * 24 + (j 2).val) * 32 + (j 3).val) / 32 % 24)
      + ((((j 0).val * 256 + (j 1).val) * 24 + (j 2).val) * 32 + (j 3).val) / 1 % 32) + 0 = _
    omega

theorem xhigh_apply (x : (⟨3, ![6, 256, 1536]⟩ : Shape).Idx → EReal) (s : Ten2 48 496) (j : S6x256x24x32.Idx) :
    val_main_v237 (F := Ideal) x s j = xrot x s (256 * (j 0).val + (j 1).val) (2 * (32 * (j 2).val + (j 3).val) + 1) := by
  have h0 : (j 0).val < 6 := (j 0).isLt
  have h1 : (j 1).val < 256 := (j 1).isLt
  have h2 : (j 2).val < 24 := (j 2).isLt
  have h3 : (j 3).val < 32 := (j 3).isLt
  rw [val_main_v237_apply, val_main_v236_apply, xpairs_apply]
  refine xrot_congr x s ?_ ?_
  · show 256 * (((((j 0).val * 256 + (j 1).val) * 24 + (j 2).val) * 32 + (j 3).val) / 196608)
      + ((((j 0).val * 256 + (j 1).val) * 24 + (j 2).val) * 32 + (j 3).val) / 768 % 256 = _
    omega
  · show 2 * (32 * (((((j 0).val * 256 + (j 1).val) * 24 + (j 2).val) * 32 + (j 3).val) / 32 % 24)
      + ((((j 0).val * 256 + (j 1).val) * 24 + (j 2).val) * 32 + (j 3).val) / 1 % 32) + (1 + 0) = _
    omega

/-! ## The product over the two contracted axes, blocks and lanes -/

/-- The product's dimension numbers. -/
abbrev DD := dot_S6x256x24x32_S8960x24x32_S6x256x8960_32_21_01_0_n_n

/-- The contracted index as block and lane. -/
def contrEquiv : DD.contr.Idx ≃ Fin 24 × Fin 32 where
  toFun q := (q ⟨1, by decide⟩, q ⟨0, by decide⟩)
  invFun p := fun a => match a with
    | ⟨0, _⟩ => p.2
    | ⟨1, _⟩ => p.1
  left_inv q := by
    funext a
    match a with
    | ⟨0, _⟩ => rfl
    | ⟨1, _⟩ => rfl
  right_inv p := rfl

theorem lhs_idx (j : S6x256x8960.Idx) (p : Fin 24 × Fin 32) :
    DD.lhsIdx j (contrEquiv.symm p) = (ix4 (j 0) (j 1) p.1 p.2 : S6x256x24x32.Idx) := by
  funext a
  match a with
  | ⟨0, _⟩ => rfl
  | ⟨1, _⟩ => rfl
  | ⟨2, _⟩ => rfl
  | ⟨3, _⟩ => rfl

theorem rhs_idx (j : S6x256x8960.Idx) (p : Fin 24 × Fin 32) :
    DD.rhsIdx j (contrEquiv.symm p) = (ix3 (j 2) p.1 p.2 : S8960x24x32.Idx) := by
  funext a
  match a with
  | ⟨0, _⟩ => rfl
  | ⟨1, _⟩ => rfl
  | ⟨2, _⟩ => rfl

/-- The product at an index: one sum over the 768 pairs. -/
theorem product_apply (l : S6x256x24x32.Idx → EReal) (r : S8960x24x32.Idx → EReal) (j : S6x256x8960.Idx)
    (f : ℕ → EReal) (hf : ∀ (q : Fin 24) (k : Fin 32), l (ix4 (j 0) (j 1) q k) * r (ix3 (j 2) q k) = f (k.val + 32 * q.val)) :
    (Host.dotGeneral (F := Ideal) (φ₁ := .bf16) (φ₂ := .f32) DD none l r : S6x256x8960.Idx → EReal) j = ∑ c : Fin 768, f c.val := by
  simp only [Host.dotGeneral]
  rw [Ideal.dotGeneral_apply, ← Equiv.sum_comp contrEquiv.symm]
  rw [← Equiv.sum_comp (finProdFinEquiv (m := 24) (n := 32)) (fun c : Fin (24 * 32) => f c.val)]
  refine Finset.sum_congr rfl fun p _ => ?_
  rw [lhs_idx, rhs_idx, hf]
  rfl

/-- The first result at row `m`, column `o`. -/
theorem out_apply (x : (⟨3, ![6, 256, 1536]⟩ : Shape).Idx → EReal) (s : Ten2 48 496) (w : Bytes) (a : Scales)
    (sc mn : Row 840) (b : Row 8960) (j : S1536x8960.Idx) :
    val_main_v244 (F := Ideal) x s w a sc mn b j = Spec.out x s w a sc mn b (j 0).val (j 1).val := by
  have h0 : (j 0).val < 1536 := (j 0).isLt
  have h1 : (j 1).val < 8960 := (j 1).isLt
  have e2 : ((j 0).val * 8960 + (j 1).val) % 8960 = (j 1).val := by omega
  have em : 256 * (((j 0).val * 8960 + (j 1).val) / 2293760) + ((j 0).val * 8960 + (j 1).val) / 8960 % 256 = (j 0).val := by omega
  rw [val_main_v244_apply, val_main_v243_apply, val_main_v242_apply, val_main_v239_apply, val_main_v241_apply,
    val_main_v240_apply]
  unfold Spec.out
  refine congrArg₂ (· + ·) (congrArg₂ (· + ·) ?_ ?_) (eq_at1 b _ e2)
  · refine product_apply _ _ _ (fun c => xrot x s (j 0).val (2 * c) * (nf4 (lowCode w (j 1).val c) * scale a sc mn (j 1).val (c / 32)))
      fun q k => ?_
    have hk := k.isLt
    rw [xlow_apply, wlow_apply]
    refine congrArg₂ (· * ·) (xrot_congr x s em (by show 2 * (32 * q.val + k.val) = _; omega)) ?_
    show nf4 (lowCode w (((j 0).val * 8960 + (j 1).val) % 8960) (32 * q.val + k.val))
      * scale a sc mn (((j 0).val * 8960 + (j 1).val) % 8960) q.val = _
    rw [e2, show (k.val + 32 * q.val) / 32 = q.val by omega, Nat.add_comm (32 * q.val)]
  · refine product_apply _ _ _ (fun c => xrot x s (j 0).val (2 * c + 1) * (nf4 (highCode w (j 1).val c) * scale a sc mn (j 1).val (c / 32)))
      fun q k => ?_
    have hk := k.isLt
    rw [xhigh_apply, whigh_apply]
    refine congrArg₂ (· * ·) (xrot_congr x s em (by show 2 * (32 * q.val + k.val) + 1 = _; omega)) ?_
    show nf4 (highCode w (((j 0).val * 8960 + (j 1).val) % 8960) (32 * q.val + k.val))
      * scale a sc mn (((j 0).val * 8960 + (j 1).val) % 8960) q.val = _
    rw [e2, show (k.val + 32 * q.val) / 32 = q.val by omega, Nat.add_comm (32 * q.val)]

end Cert.ReferenceIdeal.RefValue

end
-- ==== Proof.Value.Dequant.lean ====
/- One 32-row chunk of a weight tile in the kernel: the decoded low and high codes times the chunk's scales, at an index. -/
module

public import proofs.«01_k».proof.Proof.Value.Spec
public import proofs.«01_k».proof.Proof.Value.Words
public import proofs.«01_k».proof.Proof.Gen.KernelIdeal.Skeleton
public import Idealize.ShloMosaic.Lib.Pipeline.ValueKit

@[expose] public section

set_option maxRecDepth 16384

noncomputable section

namespace Cert.KernelIdeal.Value

open Cert.KernelIdeal Cert.KernelIdeal.Gen Cert.Spec
open Idealize.ShloMosaic Idealize.ShloMosaic.ValueIdx
open scoped BigOperators

/-! ## The decode table, one entry per lane -/

/-- The table along the lanes. -/
def tab : FVec Ideal S32x128 .f32 := k0_pay316 (iota .tc S32x128 32 [1] iota_S32x128_d1_w32) k0_pay314 k0_pay315

/-- The table's entry at a lane: the last of the first `n` levels whose number the lane is. -/
def tabAt (c : BitVec 32) : ℕ → EReal
  | 0 => Ideal.ofBits .f32 0x00000000#32
  | n + 1 => Scalar.select (IntOp.cmpi .eq c (BitVec.ofNat 32 n)) (nf4 n) (tabAt c n)

theorem tabAt_eq (k : ℕ) (hk : k < 16) : tabAt (BitVec.ofNat 32 k) 16 = nf4 k := by
  interval_cases k <;> rfl

theorem tab_word (j : S32x128.Idx) : tab j = tabAt (iota .tc S32x128 32 [1] iota_S32x128_d1_w32 j) 16 := rfl

theorem lane_word (j : S32x128.Idx) : iota .tc S32x128 32 [1] iota_S32x128_d1_w32 j = BitVec.ofNat 32 (j 1).val :=
  iota_single_apply ..

theorem tab_apply (j : S32x128.Idx) (k : ℕ) (hk : k < 16) (hj : (j 1).val = k) : tab j = nf4 k := by
  rw [tab_word, lane_word, hj, tabAt_eq k hk]

/-! ## The scales of a chunk -/

/-- The chunk's scales: one per row and 32-column block, from the three groups the chunk meets. -/
def am (s0 s1 s2 m0 m1 m2 : EReal) (a : Vec Ideal S32x24 .i8) : FVec Ideal S32x128 .f32 :=
  k0_pay320 (F := Ideal) k0_pay318 k0_pay319 s0 s1 s2 m0 m1 m2 a

/-- The one of three values that entry `p` of a chunk takes. -/
def third (p : ℕ) (s0 s1 s2 : EReal) : EReal := if p < 256 then s0 else if p < 512 then s1 else s2

theorem am_apply (s0 s1 s2 m0 m1 m2 : EReal) (a : Vec Ideal S32x24 .i8) (j : S32x128.Idx) (h : (j 1).val < 24) :
    am s0 s1 s2 m0 m1 m2 a j
      = (((at2 a (j 0).val (j 1).val).signExtend 32).toInt : ℝ) * third (24 * (j 0).val + (j 1).val) s0 s1 s2
        + third (24 * (j 0).val + (j 1).val) m0 m1 m2 := by
  have h0 : (j 0).val < 32 := (j 0).isLt
  have hp : 24 * (j 0).val + (j 1).val < 768 := by omega
  have ew : k0_pay317 j = BitVec.ofNat 32 (24 * (j 0).val + (j 1).val) := by
    have e : k0_pay317 j = IntOp.addi (IntOp.muli (iota .tc S32x128 32 [0] iota_S32x128_d0_w32 j) 24#32)
      (iota .tc S32x128 32 [1] iota_S32x128_d1_w32 j) := rfl
    rw [e, lane_word, show iota .tc S32x128 32 [0] iota_S32x128_d0_w32 j = BitVec.ofNat 32 (j 0).val from iota_single_apply ..]
    apply BitVec.eq_of_toNat_eq
    simp [IntOp.addi, IntOp.muli]
    congr 1
    omega
  have e : am s0 s1 s2 m0 m1 m2 a j
      = (concatenate S32x128 1 [⟨S32x24, sitofp (F := Ideal) .f32 (extsi 32 a natLt_8_32)⟩,
          ⟨S32x104, broadcast S32x104 (Scalar.ofBits (F := Ideal) .f32 0x00000000#32)⟩] concatenates_S32x24_S32x104_S32x128_d1 j)
        * Scalar.select (IntOp.cmpi .slt (k0_pay317 j) 256#32) s0 (Scalar.select (IntOp.cmpi .slt (k0_pay317 j) 512#32) s1 s2)
        + Scalar.select (IntOp.cmpi .slt (k0_pay317 j) 256#32) m0 (Scalar.select (IntOp.cmpi .slt (k0_pay317 j) 512#32) m1 m2) := rfl
  rw [e, ew, select3 _ hp, select3 _ hp]
  have ec := concatenate_pair_apply_left (t := S32x128) (1 : Fin 2) (sitofp (F := Ideal) .f32 (extsi 32 a natLt_8_32))
    (broadcast S32x104 (Scalar.ofBits (F := Ideal) .f32 0x00000000#32)) concatenates_S32x24_S32x104_S32x128_d1 j rfl
    (ValueIdx.ix2 (j 0) ⟨(j 1).val, h⟩ : S32x24.Idx) (by intro b; match b with
      | ⟨0, _⟩ => rfl
      | ⟨1, _⟩ => rfl)
  rw [ec]
  unfold third
  refine congrArg₂ (· + ·) (congrArg₂ (· * ·) ?_ rfl) rfl
  show ((((a (ValueIdx.ix2 (j 0) ⟨(j 1).val, h⟩)).signExtend 32).toInt : ℝ) : EReal) = _
  rw [eq_at2 a (ValueIdx.ix2 (j 0) ⟨(j 1).val, h⟩) rfl rfl]

/-! ## The two decoded blocks -/

/-- The lane's block of 32 lanes, plus an offset. -/
def blockIdx (off : BitVec 32) : IVec S32x128 32 :=
  fun j => wrap (IntOp.addi (floorDiv (iota .tc S32x128 32 [1] iota_S32x128_d1_w32 j) 32#32) off)

/-- Indices with the negative ones counted from the end, through the casts the gather is printed with. -/
def viaColumn (v : IVec S32x128 32) : IVec S32x128 32 :=
  shapeCast S32x128 (shapeCast S32x128x1 v shapeCasts_S32x128_S32x128x1) shapeCasts_S32x128x1_S32x128

theorem viaColumn_eq (v : IVec S32x128 32) : viaColumn v = v := by
  unfold viaColumn; rw [shapeCast_shapeCast]

/-- The scales spread over a block's lanes. -/
def spread (am : FVec Ideal S32x128 .f32) (off : BitVec 32) : FVec Ideal S32x128 .f32 :=
  dynamicGather 1 am (viaColumn (blockIdx off))

/-- The low codes decoded and scaled. -/
def low (am : FVec Ideal S32x128 .f32) (c : Vec Ideal S32x128 .i8) (off : BitVec 32) : FVec Ideal S32x128 .bf16 :=
  shapeCast S32x128 (truncf .bf16 (mulf (dynamicGather 1 tab
    (viaColumn fun j => wrap (IntOp.andi ((c j).setWidth 32) 15#32))) (spread am off)) bitsLt_bf16_f32) shapeCasts_S32x128_S32x128

/-- The high codes decoded and scaled. -/
def high (am : FVec Ideal S32x128 .f32) (c : Vec Ideal S32x128 .i8) (off : BitVec 32) : FVec Ideal S32x128 .bf16 :=
  shapeCast S32x128 (truncf .bf16 (mulf (dynamicGather 1 tab
    (viaColumn fun j => wrap (IntOp.shrsi .vector ((c j).setWidth 32) 4#32))) (spread am off)) bitsLt_bf16_f32) shapeCasts_S32x128_S32x128

/-- A lane gather whose index word is a lane number. -/
theorem gather_apply (x : FVec Ideal S32x128 .f32) (w : IVec S32x128 32) (j : S32x128.Idx) (k : ℕ) (hk : k < 128)
    (hw : w j = BitVec.ofNat 32 k) : dynamicGather 1 x w j = x (ValueIdx.ix2 (j 0) ⟨k, hk⟩ : S32x128.Idx) := by
  rw [dynamicGather_apply, hw]
  congr 1
  funext b
  match b with
  | ⟨0, _⟩ => rfl
  | ⟨1, _⟩ =>
    refine Fin.ext ?_
    show (BitVec.ofNat 32 k).toNat % 128 = k
    rw [BitVec.toNat_ofNat]
    omega

theorem spread_apply (am : FVec Ideal S32x128 .f32) (b : ℕ) (hb : b < 6) (j : S32x128.Idx) :
    spread am (BitVec.ofNat 32 (4 * b)) j
      = am (ValueIdx.ix2 (j 0) ⟨4 * b + (j 1).val / 32, by have : (j 1).val < 128 := (j 1).isLt; omega⟩ : S32x128.Idx) := by
  have h1 : (j 1).val < 128 := (j 1).isLt
  unfold spread
  rw [viaColumn_eq]
  refine gather_apply am _ j _ _ ?_
  unfold blockIdx
  rw [lane_word, lane_block b _ hb h1]

theorem low_apply (am : FVec Ideal S32x128 .f32) (c : Vec Ideal S32x128 .i8) (b : ℕ) (hb : b < 6) (j : S32x128.Idx) :
    low am c (BitVec.ofNat 32 (4 * b)) j = nf4 ((c j).toNat % 16)
      * am (ValueIdx.ix2 (j 0) ⟨4 * b + (j 1).val / 32, by have : (j 1).val < 128 := (j 1).isLt; omega⟩ : S32x128.Idx) := by
  unfold low
  rw [shapeCast_self, viaColumn_eq]
  have hl := low_lt (c j)
  show dynamicGather 1 tab _ j * spread am _ j = _
  rw [gather_apply tab _ j ((c j).toNat % 16) (by omega) (by show wrap _ = _; rw [low_word, wrap_eq _ (by omega)]),
    spread_apply am b hb, tab_apply _ _ hl rfl]

theorem high_apply (am : FVec Ideal S32x128 .f32) (c : Vec Ideal S32x128 .i8) (b : ℕ) (hb : b < 6) (j : S32x128.Idx) :
    high am c (BitVec.ofNat 32 (4 * b)) j = nf4 ((c j).toNat / 16)
      * am (ValueIdx.ix2 (j 0) ⟨4 * b + (j 1).val / 32, by have : (j 1).val < 128 := (j 1).isLt; omega⟩ : S32x128.Idx) := by
  unfold high
  rw [shapeCast_self, viaColumn_eq]
  have hl := high_lt (c j)
  show dynamicGather 1 tab _ j * spread am _ j = _
  rw [gather_apply tab _ j ((c j).toNat / 16) (by omega) (by show wrap _ = _; rw [high_word, wrap_eq _ (by omega)]),
    spread_apply am b hb, tab_apply _ _ hl rfl]

end Cert.KernelIdeal.Value

end
-- ==== Proof.Value.Tile.lean ====
/- The 96 blocks a weight tile is stored in, and the tile they make: column `c < 768` a low code's weight, the others a high
   code's. -/
module

public import proofs.«01_k».proof.Proof.Value.Dequant

@[expose] public section

set_option maxRecDepth 16384

noncomputable section

namespace Cert.KernelIdeal.Value

open Cert.KernelIdeal Cert.KernelIdeal.Gen Cert.Spec
open Idealize.ShloMosaic
open scoped BigOperators

variable (i : grid0.Coords)
  (arg3 : Memref sig .tc .vmem S1280x768 .i8) (harg3 : arg3.IsWhole)
  (arg4 : Memref sig .tc .vmem S1280x24 .i8) (harg4 : arg4.IsWhole)
  (arg5 : Memref sig .tc .smem S840 .f32) (harg5 : arg5.IsWhole)
  (arg6 : Memref sig .tc .smem S840 .f32) (harg6 : arg6.IsWhole)
  (x2 : Vec Ideal S1280x768 .i8) (x3 : Vec Ideal S1280x24 .i8) (x4 x5 : Vec Ideal S840 .f32)

/-! ## The loads of a chunk `K` of the block's 40 -/

theorem codes_inb (K : Fin 40) (b : Fin 6) : ∀ a, (![32 * K.val, 128 * b.val] : Fin 2 → ℕ) a + S32x128.size a ≤ S1280x768.size a := by
  intro a
  match a with
  | ⟨0, _⟩ => show 32 * K.val + 32 ≤ 1280; omega
  | ⟨1, _⟩ => show 128 * b.val + 128 ≤ 768; omega

theorem levels_inb (K : Fin 40) : ∀ a, (![32 * K.val, 0] : Fin 2 → ℕ) a + S32x24.size a ≤ S1280x24.size a := by
  intro a
  match a with
  | ⟨0, _⟩ => show 32 * K.val + 32 ≤ 1280; omega
  | ⟨1, _⟩ => show 0 + 24 ≤ 24; omega

/-- The chunk's code bytes in a block of 128 columns. -/
def codes (K : Fin 40) (b : Fin 6) : Vec Ideal S32x128 .i8 :=
  View.readAt (Elt Ideal) arg3.view (Rect.unit (s := S1280x768) ![32 * K.val, 128 * b.val] S32x128.size (codes_inb K b)).toLoadRect
    (harg3.unread x2)

/-- The chunk's scale levels. -/
def levels (K : Fin 40) : Vec Ideal S32x24 .i8 :=
  View.readAt (Elt Ideal) arg4.view (Rect.unit (s := S1280x24) ![32 * K.val, 0] S32x24.size (levels_inb K)).toLoadRect
    (harg4.unread x3)

/-- The first of the three words a chunk takes of a table of group constants … -/
def word0 (arg : Memref sig .tc .smem S840 .f32) (harg : arg.IsWhole) (x : Vec Ideal S840 .f32) (K : Fin 40) : EReal :=
  View.readAt (Elt Ideal) arg.view (Rect.unit (s := S840) (k0_off1 i (BitVec.ofNat 32 K.val)) S1.size (k0_off1_inb i K)).toLoadRect
    (harg.unread x) (Shape.Idx.first (numel1_S1.symm ▸ Nat.one_pos))
/-- … and the other two. -/
def word1 (arg : Memref sig .tc .smem S840 .f32) (harg : arg.IsWhole) (x : Vec Ideal S840 .f32) (K : Fin 40) (e : Fin 2) : EReal :=
  View.readAt (Elt Ideal) arg.view
    (Rect.unit (s := S840) (k0_off2 i (BitVec.ofNat 32 K.val) (BitVec.ofNat 32 (1 + e.val))) S1.size (k0_off2_inb i K e)).toLoadRect
    (harg.unread x) (Shape.Idx.first (numel1_S1.symm ▸ Nat.one_pos))

/-- The chunk's scales. -/
def amOf (K : Fin 40) : FVec Ideal S32x128 .f32 :=
  am (word0 i arg5 harg5 x4 K) (word1 i arg5 harg5 x4 K 0) (word1 i arg5 harg5 x4 K 1)
    (word0 i arg6 harg6 x5 K) (word1 i arg6 harg6 x5 K 0) (word1 i arg6 harg6 x5 K 1) (levels arg4 harg4 x3 K)

theorem codes_apply (K : Fin 40) (b : Fin 6) (j : S32x128.Idx) :
    codes arg3 harg3 x2 K b j = at2 x2 (32 * K.val + (j 0).val) (128 * b.val + (j 1).val) := by
  unfold codes
  rw [View.readAt_apply, harg3.read_unread]
  exact eq_at2 x2 _ (Rect.idx_unit_val ..) (Rect.idx_unit_val ..)

theorem levels_apply (K : Fin 40) (j : S32x24.Idx) :
    levels arg4 harg4 x3 K j = at2 x3 (32 * K.val + (j 0).val) (j 1).val := by
  unfold levels
  rw [View.readAt_apply, harg4.read_unread]
  exact eq_at2 x3 _ (Rect.idx_unit_val ..) ((Rect.idx_unit_val ..).trans (Nat.zero_add _))

theorem word0_eq (arg : Memref sig .tc .smem S840 .f32) (harg : arg.IsWhole) (x : Vec Ideal S840 .f32) (K : Fin 40) :
    word0 i arg harg x K = at1 x (120 * (i 0).val + 3 * K.val) := by
  unfold word0
  rw [View.readAt_apply, harg.read_unread]
  refine eq_at1 x _ ((Rect.idx_unit_val ..).trans ?_)
  have e0 : k0_off1 i (BitVec.ofNat 32 K.val) 0 = 120 * (i 0).val + 3 * K.val := congrFun (k0_off1_eq i K) 0
  exact congrArg (· + 0) e0

theorem word1_eq (arg : Memref sig .tc .smem S840 .f32) (harg : arg.IsWhole) (x : Vec Ideal S840 .f32) (K : Fin 40) (e : Fin 2) :
    word1 i arg harg x K e = at1 x (120 * (i 0).val + 3 * K.val + e.val + 1) := by
  unfold word1
  rw [View.readAt_apply, harg.read_unread]
  refine eq_at1 x _ ((Rect.idx_unit_val ..).trans ?_)
  have e0 : k0_off2 i (BitVec.ofNat 32 K.val) (BitVec.ofNat 32 (1 + e.val)) 0 = 120 * (i 0).val + 3 * K.val + e.val + 1 :=
    congrFun (k0_off2_eq i K e) 0
  exact congrArg (· + 0) e0

/-- A weight's scale, for row `n` of block `p` and 32-column group `g`. -/
def kscale (p : ℕ) (a : Vec Ideal S1280x24 .i8) (sc mn : Vec Ideal S840 .f32) (n g : ℕ) : EReal :=
  (((at2 a n g).signExtend 32).toInt : ℝ) * at1 sc (120 * p + (24 * n + g) / 256) + at1 mn (120 * p + (24 * n + g) / 256)

theorem third_eq (x : Vec Ideal S840 .f32) (p K q : ℕ) (hq : q < 768) :
    third q (at1 x (120 * p + 3 * K)) (at1 x (120 * p + 3 * K + 0 + 1)) (at1 x (120 * p + 3 * K + 1 + 1))
      = at1 x (120 * p + (768 * K + q) / 256) := by
  unfold third
  split
  · congr 1; omega
  · split
    · congr 1; omega
    · congr 1; omega

theorem amOf_apply (K : Fin 40) (j : S32x128.Idx) (h : (j 1).val < 24) :
    amOf i arg4 harg4 arg5 harg5 arg6 harg6 x3 x4 x5 K j = kscale (i 0).val x3 x4 x5 (32 * K.val + (j 0).val) (j 1).val := by
  have h0 : (j 0).val < 32 := (j 0).isLt
  unfold amOf
  rw [am_apply _ _ _ _ _ _ _ _ h, word0_eq, word0_eq, word1_eq, word1_eq, word1_eq, word1_eq]
  have hl : at2 (levels arg4 harg4 x3 K) (j 0).val (j 1).val = at2 x3 (32 * K.val + (j 0).val) (j 1).val := by
    rw [← eq_at2 (levels arg4 harg4 x3 K) (ValueIdx.ix2 (j 0) ⟨(j 1).val, h⟩ : S32x24.Idx) rfl rfl]
    exact levels_apply arg4 harg4 x3 K _
  rw [hl]
  have e4 := third_eq x4 (i 0).val K.val (24 * (j 0).val + (j 1).val) (by omega)
  have e5 := third_eq x5 (i 0).val K.val (24 * (j 0).val + (j 1).val) (by omega)
  unfold kscale
  rw [show 24 * (32 * K.val + (j 0).val) + (j 1).val = 768 * K.val + (24 * (j 0).val + (j 1).val) by omega, ← e4, ← e5]
  rfl

/-! ## The tile -/

/-- A stored block's chunk of 8, last first; its block of 128 columns; its place in the tile. -/
def chunkOf (k : Fin 96) : Fin 8 := ⟨7 - k.val / 12, by omega⟩
def blockOf (k : Fin 96) : Fin 6 := ⟨5 - k.val % 12 / 2, by omega⟩
def place (k : Fin 96) : Fin 2 → ℕ :=
  ![32 * (7 - k.val / 12), (if k.val % 2 = 0 then 768 else 0) + 128 * (5 - k.val % 12 / 2)]

theorem place_inb (k : Fin 96) : ∀ a, place k a + S32x128.size a ≤ S256x1536.size a := by
  intro a
  match a with
  | ⟨0, _⟩ => show 32 * (7 - k.val / 12) + 32 ≤ 256; omega
  | ⟨1, _⟩ =>
    show ((if k.val % 2 = 0 then 768 else 0) + 128 * (5 - k.val % 12 / 2)) + 128 ≤ 1536
    split <;> omega

/-- The chunk of the whole block, for tile `t` of 5. -/
def chunkIn (t : Fin 5) (k : Fin 96) : Fin 40 := ⟨8 * t.val + (7 - k.val / 12), by omega⟩

/-- The stored block: the high codes' at even places of the list, the low codes' at odd ones. -/
def payload (t : Fin 5) (k : Fin 96) : FVec Ideal S32x128 .bf16 :=
  if k.val % 2 = 0 then
    high (amOf i arg4 harg4 arg5 harg5 arg6 harg6 x3 x4 x5 (chunkIn t k)) (codes arg3 harg3 x2 (chunkIn t k) (blockOf k))
      (BitVec.ofNat 32 (4 * (blockOf k).val))
  else
    low (amOf i arg4 harg4 arg5 harg5 arg6 harg6 x3 x4 x5 (chunkIn t k)) (codes arg3 harg3 x2 (chunkIn t k) (blockOf k))
      (BitVec.ofNat 32 (4 * (blockOf k).val))

/-- The tile's blocks, last stored first. -/
def pieces (t : Fin 5) : List (View.Piece (Elt Ideal) S256x1536 .bf16) :=
  List.ofFn fun k : Fin 96 => ⟨Rect.unit (s := S256x1536) (place k) S32x128.size (place_inb k),
    payload i arg3 harg3 arg4 harg4 arg5 harg5 arg6 harg6 x2 x3 x4 x5 t k⟩

/-- The weight at row `n` of block `p`, column `c` of the tile's 1536. -/
def weight (p : ℕ) (w : Vec Ideal S1280x768 .i8) (a : Vec Ideal S1280x24 .i8) (sc mn : Vec Ideal S840 .f32) (n c : ℕ) : EReal :=
  if c < 768 then nf4 ((at2 w n c).toNat % 16) * kscale p a sc mn n (c / 32)
  else nf4 ((at2 w n (c - 768)).toNat / 16) * kscale p a sc mn n ((c - 768) / 32)

theorem tile_apply (t : Fin 5) (y : S256x1536.Idx) :
    View.canon (pieces i arg3 harg3 arg4 harg4 arg5 harg5 arg6 harg6 x2 x3 x4 x5 t) y
      = weight (i 0).val x2 x3 x4 x5 (256 * t.val + (y 0).val) (y 1).val := by
  have y0 : (y 0).val < 256 := (y 0).isLt
  have y1 : (y 1).val < 1536 := (y 1).isLt
  refine View.canon_ofFn_unit_eq_of_forall (S := S256x1536) (Val := Elt Ideal) (e := .bf16) place S32x128.size place_inb
    (payload i arg3 harg3 arg4 harg4 arg5 harg5 arg6 harg6 x2 x3 x4 x5 t) y _ ?_ ?_
  · by_cases hc : (y 1).val < 768
    · refine ⟨⟨12 * (7 - (y 0).val / 32) + 2 * (5 - (y 1).val / 128) + 1, by omega⟩, fun a => ?_⟩
      match a with
      | ⟨0, _⟩ =>
        show 32 * (7 - (12 * (7 - (y 0).val / 32) + 2 * (5 - (y 1).val / 128) + 1) / 12) ≤ (y 0).val
          ∧ (y 0).val < 32 * (7 - (12 * (7 - (y 0).val / 32) + 2 * (5 - (y 1).val / 128) + 1) / 12) + 32
        omega
      | ⟨1, _⟩ =>
        show (if (12 * (7 - (y 0).val / 32) + 2 * (5 - (y 1).val / 128) + 1) % 2 = 0 then 768 else 0)
            + 128 * (5 - (12 * (7 - (y 0).val / 32) + 2 * (5 - (y 1).val / 128) + 1) % 12 / 2) ≤ (y 1).val
          ∧ (y 1).val < (if (12 * (7 - (y 0).val / 32) + 2 * (5 - (y 1).val / 128) + 1) % 2 = 0 then 768 else 0)
            + 128 * (5 - (12 * (7 - (y 0).val / 32) + 2 * (5 - (y 1).val / 128) + 1) % 12 / 2) + 128
        rw [if_neg (by omega)]
        omega
    · refine ⟨⟨12 * (7 - (y 0).val / 32) + 2 * (5 - ((y 1).val - 768) / 128), by omega⟩, fun a => ?_⟩
      match a with
      | ⟨0, _⟩ =>
        show 32 * (7 - (12 * (7 - (y 0).val / 32) + 2 * (5 - ((y 1).val - 768) / 128)) / 12) ≤ (y 0).val
          ∧ (y 0).val < 32 * (7 - (12 * (7 - (y 0).val / 32) + 2 * (5 - ((y 1).val - 768) / 128)) / 12) + 32
        omega
      | ⟨1, _⟩ =>
        show (if (12 * (7 - (y 0).val / 32) + 2 * (5 - ((y 1).val - 768) / 128)) % 2 = 0 then 768 else 0)
            + 128 * (5 - (12 * (7 - (y 0).val / 32) + 2 * (5 - ((y 1).val - 768) / 128)) % 12 / 2) ≤ (y 1).val
          ∧ (y 1).val < (if (12 * (7 - (y 0).val / 32) + 2 * (5 - ((y 1).val - 768) / 128)) % 2 = 0 then 768 else 0)
            + 128 * (5 - (12 * (7 - (y 0).val / 32) + 2 * (5 - ((y 1).val - 768) / 128)) % 12 / 2) + 128
        rw [if_pos (by omega)]
        omega
  · intro k x hx
    have x0 : (x 0).val < 32 := (x 0).isLt
    have x1 : (x 1).val < 128 := (x 1).isLt
    have h0 : (y 0).val = 32 * (7 - k.val / 12) + (x 0).val := hx 0
    have h1 : (y 1).val = ((if k.val % 2 = 0 then 768 else 0) + 128 * (5 - k.val % 12 / 2)) + (x 1).val := hx 1
    have hr : 32 * (8 * t.val + (7 - k.val / 12)) + (x 0).val = 256 * t.val + (y 0).val := by omega
    unfold payload weight
    by_cases hk : k.val % 2 = 0
    · rw [if_pos hk] at h1
      rw [if_pos hk, if_neg (by omega)]
      refine (high_apply _ _ (blockOf k).val (blockOf k).isLt x).trans ?_
      rw [amOf_apply _ _ _ _ _ _ _ _ _ _ _ _ (by show 4 * (5 - k.val % 12 / 2) + (x 1).val / 32 < 24; omega), codes_apply]
      show nf4 ((at2 x2 (32 * (8 * t.val + (7 - k.val / 12)) + (x 0).val) (128 * (5 - k.val % 12 / 2) + (x 1).val)).toNat / 16)
        * kscale (i 0).val x3 x4 x5 (32 * (8 * t.val + (7 - k.val / 12)) + (x 0).val) (4 * (5 - k.val % 12 / 2) + (x 1).val / 32) = _
      rw [hr, show (y 1).val - 768 = 128 * (5 - k.val % 12 / 2) + (x 1).val by omega,
        show (128 * (5 - k.val % 12 / 2) + (x 1).val) / 32 = 4 * (5 - k.val % 12 / 2) + (x 1).val / 32 by omega]
    · rw [if_neg hk] at h1
      rw [if_neg hk, if_pos (by omega)]
      refine (low_apply _ _ (blockOf k).val (blockOf k).isLt x).trans ?_
      rw [amOf_apply _ _ _ _ _ _ _ _ _ _ _ _ (by show 4 * (5 - k.val % 12 / 2) + (x 1).val / 32 < 24; omega), codes_apply]
      show nf4 ((at2 x2 (32 * (8 * t.val + (7 - k.val / 12)) + (x 0).val) (128 * (5 - k.val % 12 / 2) + (x 1).val)).toNat % 16)
        * kscale (i 0).val x3 x4 x5 (32 * (8 * t.val + (7 - k.val / 12)) + (x 0).val) (4 * (5 - k.val % 12 / 2) + (x 1).val / 32) = _
      rw [hr, show (y 1).val = 128 * (5 - k.val % 12 / 2) + (x 1).val by omega,
        show (128 * (5 - k.val % 12 / 2) + (x 1).val) / 32 = 4 * (5 - k.val % 12 / 2) + (x 1).val / 32 by omega]

end Cert.KernelIdeal.Value

end
-- ==== Proof.Value.Skew.lean ====
/- The skew-symmetric matrices in the kernel: the scratch array the strict upper triangles are spread into, row `i` of all 48
   blocks at rows `56 * i` and up, and each block read back from it. -/
module

public import proofs.«01_k».proof.Proof.Value.Dequant
public import Idealize.ShloMosaic.Lib.KernelVsHost

@[expose] public section

set_option maxRecDepth 16384

noncomputable section

namespace Cert.KernelIdeal.Value

open Cert.KernelIdeal Cert.KernelIdeal.Gen Cert.Spec
open Idealize.ShloMosaic
open scoped BigOperators

/-! ## The words of a lane -/

/-- The remainder with the divisor's sign, as the kernel spells it. -/
def floorMod (x c : BitVec 32) : BitVec 32 :=
  Scalar.select
    (IntOp.andi
      (IntOp.xori (IntOp.cmpi .slt (IntOp.remsi .vector x (Scalar.select (Scalar.cmpi .eq c 0#32) 1#32 c)) 0#32)
        (Scalar.cmpi .slt (Scalar.select (Scalar.cmpi .eq c 0#32) 1#32 c) 0#32))
      (IntOp.cmpi .ne (IntOp.remsi .vector x (Scalar.select (Scalar.cmpi .eq c 0#32) 1#32 c)) 0#32))
    (IntOp.addi (IntOp.remsi .vector x (Scalar.select (Scalar.cmpi .eq c 0#32) 1#32 c)) (Scalar.select (Scalar.cmpi .eq c 0#32) 1#32 c))
    (IntOp.remsi .vector x (Scalar.select (Scalar.cmpi .eq c 0#32) 1#32 c))

/-- The matrix row of a lane … -/
def rowWord (l v : BitVec 32) : BitVec 32 := IntOp.addi (floorDiv l 32#32) v
/-- … its column … -/
def colWord (l : BitVec 32) : BitVec 32 := floorMod l 32#32
/-- … and the place of that entry in a block's packed row. -/
def triWord (i j : BitVec 32) : BitVec 32 :=
  Scalar.select (IntOp.cmpi .eq i j) 0#32
    (IntOp.subi
      (IntOp.subi
        (IntOp.addi
          (IntOp.subi (IntOp.muli 31#32 (IntOp.minsi i j))
            (floorDiv (IntOp.muli (IntOp.minsi i j) (IntOp.subi (IntOp.minsi i j) 1#32)) 2#32))
          (IntOp.maxsi i j))
        (IntOp.minsi i j))
      1#32)

/-- The same place as a number. -/
def triNat (i j : ℕ) : ℕ := if i = j then 0 else tri (min i j) (max i j)

theorem rowWord_eq (l v : ℕ) (hl : l < 128) (hv : v < 8) :
    rowWord (BitVec.ofNat 32 l) (BitVec.ofNat 32 (4 * v)) = BitVec.ofNat 32 (l / 32 + 4 * v) := by
  have h : ∀ (l : Fin 128) (v : Fin 8), rowWord (BitVec.ofNat 32 l.val) (BitVec.ofNat 32 (4 * v.val))
      = BitVec.ofNat 32 (l.val / 32 + 4 * v.val) := by decide +kernel
  exact h ⟨l, hl⟩ ⟨v, hv⟩

theorem colWord_eq (l : ℕ) (hl : l < 128) : colWord (BitVec.ofNat 32 l) = BitVec.ofNat 32 (l % 32) := by
  have h : ∀ l : Fin 128, colWord (BitVec.ofNat 32 l.val) = BitVec.ofNat 32 (l.val % 32) := by decide +kernel
  exact h ⟨l, hl⟩

theorem triWord_eq (i j : ℕ) (hi : i < 32) (hj : j < 32) :
    triWord (BitVec.ofNat 32 i) (BitVec.ofNat 32 j) = BitVec.ofNat 32 (triNat i j) := by
  have h : ∀ i j : Fin 32, triWord (BitVec.ofNat 32 i.val) (BitVec.ofNat 32 j.val) = BitVec.ofNat 32 (triNat i.val j.val) := by
    decide +kernel
  exact h ⟨i, hi⟩ ⟨j, hj⟩

theorem triNat_lt (i j : ℕ) (hi : i < 32) (hj : j < 32) : triNat i j < 496 := by
  have h : ∀ i j : Fin 32, triNat i.val j.val < 496 := by decide +kernel
  exact h ⟨i, hi⟩ ⟨j, hj⟩

/-- A place's lane and its part of 128 lanes. -/
theorem part_word (t : ℕ) (ht : t < 496) : IntOp.andi (BitVec.ofNat 32 t) 127#32 = BitVec.ofNat 32 (t % 128)
    ∧ IntOp.shrsi .vector (BitVec.ofNat 32 t) 7#32 = BitVec.ofNat 32 (t / 128) := by
  have h : ∀ t : Fin 496, IntOp.andi (BitVec.ofNat 32 t.val) 127#32 = BitVec.ofNat 32 (t.val % 128)
      ∧ IntOp.shrsi .vector (BitVec.ofNat 32 t.val) 7#32 = BitVec.ofNat 32 (t.val / 128) := by decide +kernel
  exact h ⟨t, ht⟩

/-! ## Four rows of every block -/

/-- The lane's number. -/
def lane : IVec S48x128 32 := iota .tc S48x128 32 [1] iota_S48x128_d1_w32

theorem lane_eq (j : S48x128.Idx) : lane j = BitVec.ofNat 32 (j 1).val := iota_single_apply ..

/-- The packed rows padded to 512 lanes, and a quarter of them. -/
def padded (s : Vec Ideal S48x496 .f32) : FVec Ideal S48x512 .f32 :=
  concatenate S48x512 1 [⟨S48x496, s⟩, ⟨S48x16, broadcast S48x16 (Scalar.ofBits (F := Ideal) .f32 0x00000000#32)⟩]
    concatenates_S48x496_S48x16_S48x512_d1
def part0 (s : Vec Ideal S48x496 .f32) : FVec Ideal S48x128 .f32 :=
  extractStridedSlice S48x128 ![0, 0] (padded s) slices_S48x512_o0_0_S48x128
def part1 (s : Vec Ideal S48x496 .f32) : FVec Ideal S48x128 .f32 :=
  extractStridedSlice S48x128 ![0, 128] (padded s) slices_S48x512_o0_128_S48x128
def part2 (s : Vec Ideal S48x496 .f32) : FVec Ideal S48x128 .f32 :=
  extractStridedSlice S48x128 ![0, 256] (padded s) slices_S48x512_o0_256_S48x128
def part3 (s : Vec Ideal S48x496 .f32) : FVec Ideal S48x128 .f32 :=
  extractStridedSlice S48x128 ![0, 384] (padded s) slices_S48x512_o0_384_S48x128

/-- The place of every lane's entry. -/
def places (v : BitVec 32) : IVec S48x128 32 := fun j => triWord (rowWord (lane j) v) (colWord (lane j))

/-- The lane gather at the places, from one quarter. -/
def gath (x : FVec Ideal S48x128 .f32) (v : BitVec 32) : FVec Ideal S48x128 .f32 :=
  dynamicGather 1 x (shapeCast S48x128
    (shapeCast S48x128x1 (fun j => wrap (IntOp.andi (places v j) 127#32) : IVec S48x128 32) shapeCasts_S48x128_S48x128x1)
    shapeCasts_S48x128x1_S48x128)

/-- The entry at the place, from the quarter that holds it. -/
def entry (s : Vec Ideal S48x496 .f32) (v : BitVec 32) : FVec Ideal S48x128 .f32 := fun j =>
  Scalar.select (IntOp.cmpi .eq (IntOp.shrsi .vector (places v j) 7#32) 0#32) (gath (part0 s) v j)
    (Scalar.select (IntOp.cmpi .eq (IntOp.shrsi .vector (places v j) 7#32) 1#32) (gath (part1 s) v j)
      (Scalar.select (IntOp.cmpi .eq (IntOp.shrsi .vector (places v j) 7#32) 2#32) (gath (part2 s) v j) (gath (part3 s) v j)))

/-- Rows `v` to `v + 3` of every block's skew-symmetric matrix, one after the other along the lanes. -/
def rows4 (s : Vec Ideal S48x496 .f32) (v : BitVec 32) : FVec Ideal S48x128 .f32 := fun j =>
  Scalar.select (IntOp.cmpi .slt (rowWord (lane j) v) (colWord (lane j))) (entry s v j)
    (Scalar.select (IntOp.cmpi .sgt (rowWord (lane j) v) (colWord (lane j)))
      (Scalar.ofBits (F := Ideal) .f32 0x00000000#32 - entry s v j) (Scalar.ofBits (F := Ideal) .f32 0x00000000#32))

theorem padded_apply (s : Vec Ideal S48x496 .f32) (j : S48x512.Idx) (h : (j 1).val < 496) :
    padded s j = at2 s (j 0).val (j 1).val := by
  unfold padded
  rw [concatenate_pair_apply_left (t := S48x512) (1 : Fin 2) s _ concatenates_S48x496_S48x16_S48x512_d1 j rfl
    (ValueIdx.ix2 (j 0) ⟨(j 1).val, h⟩ : S48x496.Idx) (by intro b; match b with
      | ⟨0, _⟩ => rfl
      | ⟨1, _⟩ => rfl)]
  exact eq_at2 s _ rfl rfl

/-- A quarter at a lane. -/
theorem part_apply (s : Vec Ideal S48x496 .f32) (p : ℕ) (hs : S48x512.Slices ![0, 128 * p] S48x128) (j : S48x128.Idx)
    (h : 128 * p + (j 1).val < 496) :
    extractStridedSlice S48x128 ![0, 128 * p] (padded s) hs j = at2 s (j 0).val (128 * p + (j 1).val) := by
  rw [extractStridedSlice_apply ![0, 128 * p] (padded s) hs j
    (ValueIdx.ix2 (j 0) ⟨128 * p + (j 1).val, by omega⟩ : S48x512.Idx) (by intro a; match a with
      | ⟨0, _⟩ => exact (Nat.zero_add _).symm
      | ⟨1, _⟩ => rfl)]
  exact padded_apply s _ h

theorem gath_apply (x : FVec Ideal S48x128 .f32) (v : ℕ) (hv : v < 8) (j : S48x128.Idx) :
    gath x (BitVec.ofNat 32 (4 * v)) j = x (ValueIdx.ix2 (j 0)
      ⟨triNat ((j 1).val / 32 + 4 * v) ((j 1).val % 32) % 128, Nat.mod_lt _ (by decide)⟩ : S48x128.Idx) := by
  have h1 : (j 1).val < 128 := (j 1).isLt
  have ht := triNat_lt ((j 1).val / 32 + 4 * v) ((j 1).val % 32) (by omega) (by omega)
  unfold gath
  rw [shapeCast_shapeCast, dynamicGather_apply]
  unfold places
  rw [lane_eq, rowWord_eq _ _ h1 hv, colWord_eq _ h1, triWord_eq _ _ (by omega) (by omega), (part_word _ ht).1,
    wrap_eq _ (Nat.mod_lt _ (by decide))]
  congr 1
  funext b
  match b with
  | ⟨0, _⟩ => rfl
  | ⟨1, _⟩ =>
    refine Fin.ext ?_
    show (BitVec.ofNat 32 (triNat ((j 1).val / 32 + 4 * v) ((j 1).val % 32) % 128)).toNat % 128 = _
    rw [BitVec.toNat_ofNat]
    show _ = triNat ((j 1).val / 32 + 4 * v) ((j 1).val % 32) % 128
    omega

theorem select_decide {α : Type} (p : Prop) [Decidable p] (w : BitVec 1) (hw : w = if p then 1#1 else 0#1) (x y : α) :
    Scalar.select w x y = if p then x else y := by
  subst hw
  split <;> simp [Scalar.select]

theorem quarter_word (q : ℕ) (hq : q < 4) : IntOp.cmpi .eq (BitVec.ofNat 32 q) 0#32 = (if q = 0 then 1#1 else 0#1)
    ∧ IntOp.cmpi .eq (BitVec.ofNat 32 q) 1#32 = (if q = 1 then 1#1 else 0#1)
    ∧ IntOp.cmpi .eq (BitVec.ofNat 32 q) 2#32 = (if q = 2 then 1#1 else 0#1) := by
  interval_cases q <;> decide

theorem order_word (i j : ℕ) (hi : i < 32) (hj : j < 32) :
    IntOp.cmpi .slt (BitVec.ofNat 32 i) (BitVec.ofNat 32 j) = (if i < j then 1#1 else 0#1)
    ∧ IntOp.cmpi .sgt (BitVec.ofNat 32 i) (BitVec.ofNat 32 j) = (if j < i then 1#1 else 0#1) := by
  have h : ∀ i j : Fin 32, IntOp.cmpi .slt (BitVec.ofNat 32 i.val) (BitVec.ofNat 32 j.val) = (if i.val < j.val then 1#1 else 0#1)
    ∧ IntOp.cmpi .sgt (BitVec.ofNat 32 i.val) (BitVec.ofNat 32 j.val) = (if j.val < i.val then 1#1 else 0#1) := by decide +kernel
  exact h ⟨i, hi⟩ ⟨j, hj⟩

theorem entry_apply (s : Vec Ideal S48x496 .f32) (v : ℕ) (hv : v < 8) (j : S48x128.Idx) :
    entry s (BitVec.ofNat 32 (4 * v)) j = at2 s (j 0).val (triNat ((j 1).val / 32 + 4 * v) ((j 1).val % 32)) := by
  have h1 : (j 1).val < 128 := (j 1).isLt
  have ht := triNat_lt ((j 1).val / 32 + 4 * v) ((j 1).val % 32) (by omega) (by omega)
  unfold entry
  rw [gath_apply _ v hv, gath_apply _ v hv, gath_apply _ v hv, gath_apply _ v hv]
  unfold places
  rw [lane_eq, rowWord_eq _ _ h1 hv, colWord_eq _ h1, triWord_eq _ _ (by omega) (by omega), (part_word _ ht).2]
  generalize triNat ((j 1).val / 32 + 4 * v) ((j 1).val % 32) = t at ht
  obtain ⟨q0, q1, q2⟩ := quarter_word (t / 128) (by omega)
  rw [select_decide _ _ q0, select_decide _ _ q1, select_decide _ _ q2]
  split
  · refine (part_apply s 0 slices_S48x512_o0_0_S48x128 _ (by show 128 * 0 + t % 128 < 496; omega)).trans ?_
    show at2 s (j 0).val (128 * 0 + t % 128) = _
    congr 1; omega
  · split
    · refine (part_apply s 1 slices_S48x512_o0_128_S48x128 _ (by show 128 * 1 + t % 128 < 496; omega)).trans ?_
      show at2 s (j 0).val (128 * 1 + t % 128) = _
      congr 1; omega
    · split
      · refine (part_apply s 2 slices_S48x512_o0_256_S48x128 _ (by show 128 * 2 + t % 128 < 496; omega)).trans ?_
        show at2 s (j 0).val (128 * 2 + t % 128) = _
        congr 1; omega
      · refine (part_apply s 3 slices_S48x512_o0_384_S48x128 _ (by show 128 * 3 + t % 128 < 496; omega)).trans ?_
        show at2 s (j 0).val (128 * 3 + t % 128) = _
        congr 1; omega

theorem rows4_apply (s : Vec Ideal S48x496 .f32) (v : ℕ) (hv : v < 8) (j : S48x128.Idx) :
    rows4 s (BitVec.ofNat 32 (4 * v)) j = skew s (j 0).val ((j 1).val / 32 + 4 * v) ((j 1).val % 32) := by
  have h1 : (j 1).val < 128 := (j 1).isLt
  unfold rows4
  rw [entry_apply s v hv, lane_eq, rowWord_eq _ _ h1 hv, colWord_eq _ h1]
  have hi : (j 1).val / 32 + 4 * v < 32 := by omega
  have hj : (j 1).val % 32 < 32 := by omega
  generalize (j 1).val / 32 + 4 * v = a at hi
  generalize (j 1).val % 32 = b at hj
  obtain ⟨o1, o2⟩ := order_word a b hi hj
  rw [select_decide _ _ o1, select_decide _ _ o2]
  have z : (Scalar.ofBits (F := Ideal) .f32 0x00000000#32 : EReal) = 0 := Ideal.ofBits_zero_f32
  rw [z]
  unfold skew up triNat
  by_cases hab : a < b
  · rw [if_pos hab, if_pos hab, if_neg (by omega), if_neg (by omega), Nat.min_eq_left hab.le, Nat.max_eq_right hab.le, sub_zero]
  · rw [if_neg hab, if_neg hab]
    by_cases hba : b < a
    · rw [if_pos hba, if_pos hba, if_neg (by omega), Nat.min_eq_right hba.le, Nat.max_eq_left hba.le]
    · rw [if_neg hba, if_neg hba, sub_zero]

/-! ## The scratch array -/

/-- One row of every block, moved to the first lanes. -/
def rowOf (s : Vec Ideal S48x496 .f32) (v r : ℕ) : FVec Ideal S48x128 .f32 :=
  if r = 0 then shapeCast S48x128 (rows4 s (BitVec.ofNat 32 (4 * v))) shapeCasts_S48x128_S48x128
  else shapeCast S48x128 (dynamicRotate 1 (BitVec.ofNat 32 (128 - 32 * r)) none (rows4 s (BitVec.ofNat 32 (4 * v))) rotates_S48x128_d1)
    shapeCasts_S48x128_S48x128

theorem rowOf_apply (s : Vec Ideal S48x496 .f32) (v r : ℕ) (hv : v < 8) (hr : r < 4) (j : S48x128.Idx) (h : (j 1).val < 32) :
    rowOf s v r j = skew s (j 0).val (4 * v + r) (j 1).val := by
  unfold rowOf
  split
  · rename_i h0
    rw [shapeCast_self, rows4_apply s v hv]
    congr 1 <;> omega
  · rw [shapeCast_self, dynamicRotate_apply (1 : Fin 2) _ _ rotates_S48x128_d1 j
      (ValueIdx.ix2 (j 0) ⟨(j 1).val + 32 * r, by omega⟩ : S48x128.Idx) (by
        intro b
        match b with
        | ⟨0, _⟩ => rfl
        | ⟨1, _⟩ =>
          show (j 1).val + 32 * r = ((j 1).val + 128 - (BitVec.ofNat 32 (128 - 32 * r)).toNat % 128) % 128
          rw [BitVec.toNat_ofNat]
          omega), rows4_apply s v hv]
    show skew s (j 0).val (((j 1).val + 32 * r) / 32 + 4 * v) (((j 1).val + 32 * r) % 32) = _
    congr 1 <;> omega

/-- The packed rows, loaded. -/
def packed (arg2 : Memref sig .tc .vmem S48x496 .f32) (harg2 : arg2.IsWhole) (x1 : Vec Ideal S48x496 .f32) : Vec Ideal S48x496 .f32 :=
  View.readAt (Elt Ideal) arg2.view (Rect.unit (s := S48x496) ![0, 0] S48x496.size inb_S48x496_S48x496_0_0).toLoadRect (harg2.unread x1)

theorem packed_eq (arg2 : Memref sig .tc .vmem S48x496 .f32) (harg2 : arg2.IsWhole) (x1 : Vec Ideal S48x496 .f32) :
    packed arg2 harg2 x1 = x1 := by
  funext j
  unfold packed
  rw [View.readAt_apply, harg2.read_unread]
  exact (eq_at2 x1 _ ((Rect.idx_unit_val ..).trans (Nat.zero_add _)) ((Rect.idx_unit_val ..).trans (Nat.zero_add _))).trans
    (eq_at2 x1 j rfl rfl).symm

def rowPlace (k : Fin 32) : Fin 2 → ℕ := ![56 * (31 - k.val), 0]

theorem rowPlace_inb (k : Fin 32) : ∀ a, rowPlace k a + S48x128.size a ≤ S1792x128.size a := by
  intro a
  match a with
  | ⟨0, _⟩ => show 56 * (31 - k.val) + 48 ≤ 1792; omega
  | ⟨1, _⟩ => show 0 + 128 ≤ 128; omega

/-- The 32 stores, last first. -/
def rowPieces (s : Vec Ideal S48x496 .f32) : List (View.Piece (Elt Ideal) S1792x128 .f32) :=
  List.ofFn fun k : Fin 32 => ⟨Rect.unit (s := S1792x128) (rowPlace k) S48x128.size (rowPlace_inb k),
    rowOf s ((31 - k.val) / 4) ((31 - k.val) % 4)⟩

theorem rows_apply (s : Vec Ideal S48x496 .f32) (y : S1792x128.Idx) (n i : ℕ) (hn : n < 48) (hi : i < 32)
    (h0 : (y 0).val = 56 * i + n) (h1 : (y 1).val < 32) : View.canon (rowPieces s) y = skew s n i (y 1).val := by
  refine View.canon_ofFn_unit_eq_of_forall (S := S1792x128) (Val := Elt Ideal) (e := .f32) rowPlace S48x128.size rowPlace_inb
    (fun k => rowOf s ((31 - k.val) / 4) ((31 - k.val) % 4)) y _ ⟨⟨31 - i, by omega⟩, fun a => ?_⟩ ?_
  · match a with
    | ⟨0, _⟩ => show 56 * (31 - (31 - i)) ≤ (y 0).val ∧ (y 0).val < 56 * (31 - (31 - i)) + 48; omega
    | ⟨1, _⟩ => show 0 ≤ (y 1).val ∧ (y 1).val < 0 + 128; omega
  · intro k x hx
    have x0 : (x 0).val < 48 := (x 0).isLt
    have e0 : (y 0).val = 56 * (31 - k.val) + (x 0).val := hx 0
    have e1 : (y 1).val = 0 + (x 1).val := hx 1
    have hk : 31 - k.val = i := by omega
    have hx0 : (x 0).val = n := by omega
    show rowOf s ((31 - k.val) / 4) ((31 - k.val) % 4) x = _
    rw [rowOf_apply s _ _ (by omega) (by omega) x (by omega), hx0, hk, show 4 * (i / 4) + i % 4 = i by omega,
      show (x 1).val = (y 1).val by omega]

end Cert.KernelIdeal.Value

end
-- ==== Proof.Value.Group.lean ====
/- A group of eight blocks in the kernel: the blocks side by side, their powers by block-diagonal products, and the rotation
   minus the identity. -/
module

public import proofs.«01_k».proof.Proof.Value.Skew
public import Idealize.ShloMosaic.Lib.MatmulPlain

@[expose] public section

set_option maxRecDepth 16384

noncomputable section

namespace Cert.KernelIdeal.Value

open Cert.KernelIdeal Cert.KernelIdeal.Gen Cert.Spec
open Idealize.ShloMosaic
open scoped BigOperators

/-! ## Words on 256 lanes -/

theorem eq_word (a b : ℕ) (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · subst h; simp
  · have hne : ¬ BitVec.ofNat 32 a = BitVec.ofNat 32 b := by
      intro e
      have e' := congrArg BitVec.toNat e
      rw [BitVec.toNat_ofNat, BitVec.toNat_ofNat, Nat.mod_eq_of_lt ha, Nat.mod_eq_of_lt hb] at e'
      exact h e'
    rw [if_neg h, beq_eq_false_iff_ne.mpr hne]
    rfl

theorem block_word (l : ℕ) (hl : l < 256) : floorDiv (BitVec.ofNat 32 l) 32#32 = BitVec.ofNat 32 (l / 32) := by
  have h : ∀ l : Fin 256, floorDiv (BitVec.ofNat 32 l.val) 32#32 = BitVec.ofNat 32 (l.val / 32) := by decide +kernel
  exact h ⟨l, hl⟩

/-! ## A sum over 256 with 32 terms -/

theorem sum_block (g : ℕ → EReal) (q : ℕ) (hq : q < 8) (h : ∀ k, k < 256 → k / 32 ≠ q → g k = 0) :
    ∑ k : Fin 256, g k.val = ∑ k : Fin 32, g (32 * q + k.val) := by
  rw [Fin.sum_univ_eq_sum_range (fun k => g k) 256, Fin.sum_univ_eq_sum_range (fun k => g (32 * q + k)) 32]
  have e : ∑ k ∈ Finset.range 32, g (32 * q + k) = ∑ k ∈ Finset.Ico (32 * q) (32 * q + 32), g k := by
    rw [Finset.sum_Ico_eq_sum_range]
    simp
  rw [e]
  symm
  refine Finset.sum_subset ?_ ?_
  · intro k hk
    simp only [Finset.mem_Ico, Finset.mem_range] at hk ⊢
    omega
  · intro k hk hk'
    simp only [Finset.mem_Ico, Finset.mem_range] at hk hk'
    exact h k hk (by omega)

/-! ## The operations -/

/-- The row's and the lane's block of 32, on the square of 256. -/
def rowBlk : IVec S256x256 32 := fun j => floorDiv (iota .tc S256x256 32 [0] iota_S256x256_d0_w32 j) 32#32
def laneBlk : IVec S256x256 32 := fun j => floorDiv (iota .tc S256x256 32 [1] iota_S256x256_d1_w32 j) 32#32

theorem row256 (j : S256x256.Idx) : iota .tc S256x256 32 [0] iota_S256x256_d0_w32 j = BitVec.ofNat 32 (j 0).val := iota_single_apply ..
theorem lane256 (j : S256x256.Idx) : iota .tc S256x256 32 [1] iota_S256x256_d1_w32 j = BitVec.ofNat 32 (j 1).val := iota_single_apply ..

/-- Eight copies below each other. -/
def stack (x : FVec Ideal S32x256 .f32) : FVec Ideal S256x256 .f32 :=
  concatenate S256x256 0 (List.replicate 8 ⟨S32x256, x⟩)
    concatenates_S32x256_S32x256_S32x256_S32x256_S32x256_S32x256_S32x256_S32x256_S256x256_d0

theorem stack_apply (x : FVec Ideal S32x256 .f32) (j : S256x256.Idx) :
    stack x j = at2 x ((j 0).val % 32) (j 1).val := by
  unfold stack
  rw [concatenate_replicate_apply (t := S256x256) (s₁ := S32x256) (0 : Fin 2) 8 x
    concatenates_S32x256_S32x256_S32x256_S32x256_S32x256_S32x256_S32x256_S32x256_S256x256_d0 rfl j
    (ValueIdx.ix2 ⟨(j 0).val % 32, Nat.mod_lt _ (by decide)⟩ (j 1) : S32x256.Idx) rfl (by
      intro b hb
      match b, hb with
      | ⟨0, _⟩, hb => exact absurd rfl hb
      | ⟨1, _⟩, _ => rfl)]
  exact eq_at2 x _ rfl rfl

/-- The eight blocks on a diagonal. -/
def diag (x : FVec Ideal S32x256 .f32) : FVec Ideal S256x256 .f32 := fun j =>
  Scalar.select (IntOp.cmpi .eq (laneBlk j) (rowBlk j)) (stack x j) (Scalar.ofBits (F := Ideal) .f32 0x00000000#32)

theorem diag_apply (x : FVec Ideal S32x256 .f32) (j : S256x256.Idx) :
    diag x j = if (j 0).val / 32 = (j 1).val / 32 then at2 x ((j 0).val % 32) (j 1).val else 0 := by
  have h0 : (j 0).val < 256 := (j 0).isLt
  have h1 : (j 1).val < 256 := (j 1).isLt
  unfold diag laneBlk rowBlk
  rw [row256, lane256, block_word _ h0, block_word _ h1, stack_apply,
    select_decide _ _ (eq_word ((j 1).val / 32) ((j 0).val / 32) (by omega) (by omega))]
  have z : (Scalar.ofBits (F := Ideal) .f32 0x00000000#32 : EReal) = 0 := Ideal.ofBits_zero_f32
  rw [z]
  by_cases h : (j 1).val / 32 = (j 0).val / 32
  · rw [if_pos h, if_pos h.symm]
  · rw [if_neg h, if_neg (fun e => h e.symm)]

/-- A product with the block diagonal. -/
def times (y x : FVec Ideal S32x256 .f32) : FVec Ideal S32x256 .f32 :=
  matmul dot_S32x256_S256x256_S32x256_1_0_0_1_n_n (some .fp32) y (diag x) (constant (F := Ideal) S32x256 .f32 0x00000000#32)

theorem times_apply (y x : FVec Ideal S32x256 .f32) (j : S32x256.Idx) :
    times y x j = ∑ k : Fin 32, at2 y (j 0).val (32 * ((j 1).val / 32) + k.val) * at2 x k.val (j 1).val := by
  have h1 : (j 1).val < 256 := (j 1).isLt
  have ej : j = ValueIdx.ix2 (j 0) (j 1) := ValueIdx.eq_ix2 j
  have e : times y x j = constant (F := Ideal) S32x256 .f32 0x00000000#32 j
      + ∑ k : Fin 256, y (ValueIdx.ix2 (j 0) k : S32x256.Idx) * diag x (ValueIdx.ix2 k (j 1) : S256x256.Idx) := by
    conv_lhs => rw [ej]
    refine (Ideal.matmul_plain_apply (M := 32) (K := 256) (N := 256) (some .fp32) y (diag x)
      (constant (F := Ideal) S32x256 .f32 0x00000000#32) (j 0) (j 1)).trans ?_
    rfl
  have z : constant (F := Ideal) S32x256 .f32 0x00000000#32 j = 0 := Ideal.ofBits_zero_f32
  rw [e, z, zero_add]
  refine Eq.trans (Finset.sum_congr rfl fun k _ => ?_) ((sum_block
    (fun k => at2 y (j 0).val k * (if k / 32 = (j 1).val / 32 then at2 x (k % 32) (j 1).val else 0)) ((j 1).val / 32) (by omega)
    (fun k _ hk => by rw [if_neg hk, mul_zero])).trans (Finset.sum_congr rfl fun k _ => ?_))
  · rw [diag_apply, eq_at2 y (ValueIdx.ix2 (j 0) k : S32x256.Idx) rfl rfl]
  · show at2 y (j 0).val (32 * ((j 1).val / 32) + k.val)
      * (if (32 * ((j 1).val / 32) + k.val) / 32 = (j 1).val / 32 then at2 x ((32 * ((j 1).val / 32) + k.val) % 32) (j 1).val else 0) = _
    have hk := k.isLt
    rw [if_pos (by omega), show (32 * ((j 1).val / 32) + k.val) % 32 = k.val by omega]

/-- The rotation minus the identity, from the blocks side by side. -/
def powers (c : FVec Ideal S32x256 .f32) : FVec Ideal S32x256 .f32 :=
  mulf (broadcast S32x256 (Scalar.ofBits (F := Ideal) .f32 0x40000000#32))
    (addf (addf (addf c (times c c)) (times (times c c) c)) (times (times c c) (times c c)))

theorem at2_mk {a b : ℕ} [NeZero a] [NeZero b] (x : (⟨2, ![a, b]⟩ : Shape).Idx → EReal) (f : ℕ → ℕ → EReal)
    (h : ∀ j, x j = f (j 0).val (j 1).val) (m n : ℕ) (hm : m < a) (hn : n < b) : at2 x m n = f m n := by
  unfold at2
  rw [h]
  show f (m % a) (n % b) = _
  rw [Nat.mod_eq_of_lt hm, Nat.mod_eq_of_lt hn]

section
variable (s : Ten2 48 496) (g : ℕ) (c : FVec Ideal S32x256 .f32)
  (hc : ∀ j, c j = skew s (8 * g + (j 1).val / 32) (j 0).val ((j 1).val % 32))
include hc

theorem pow2 (j : S32x256.Idx) : times c c j = skew2 s (8 * g + (j 1).val / 32) (j 0).val ((j 1).val % 32) := by
  have h0 : (j 0).val < 32 := (j 0).isLt
  have h1 : (j 1).val < 256 := (j 1).isLt
  rw [times_apply]
  refine Finset.sum_congr rfl fun k _ => ?_
  have hk := k.isLt
  rw [at2_mk c (fun i l => skew s (8 * g + l / 32) i (l % 32)) hc _ _ h0 (by omega),
    at2_mk c (fun i l => skew s (8 * g + l / 32) i (l % 32)) hc _ _ hk h1]
  show skew s (8 * g + (32 * ((j 1).val / 32) + k.val) / 32) (j 0).val ((32 * ((j 1).val / 32) + k.val) % 32)
    * skew s (8 * g + (j 1).val / 32) k.val ((j 1).val % 32) = _
  rw [show (32 * ((j 1).val / 32) + k.val) / 32 = (j 1).val / 32 by omega,
    show (32 * ((j 1).val / 32) + k.val) % 32 = k.val by omega]

theorem pow3 (j : S32x256.Idx) : times (times c c) c j = skew3 s (8 * g + (j 1).val / 32) (j 0).val ((j 1).val % 32) := by
  have h0 : (j 0).val < 32 := (j 0).isLt
  have h1 : (j 1).val < 256 := (j 1).isLt
  rw [times_apply]
  refine Finset.sum_congr rfl fun k _ => ?_
  have hk := k.isLt
  rw [at2_mk (times c c) (fun i l => skew2 s (8 * g + l / 32) i (l % 32)) (pow2 s g c hc) _ _ h0 (by omega),
    at2_mk c (fun i l => skew s (8 * g + l / 32) i (l % 32)) hc _ _ hk h1]
  show skew2 s (8 * g + (32 * ((j 1).val / 32) + k.val) / 32) (j 0).val ((32 * ((j 1).val / 32) + k.val) % 32)
    * skew s (8 * g + (j 1).val / 32) k.val ((j 1).val % 32) = _
  rw [show (32 * ((j 1).val / 32) + k.val) / 32 = (j 1).val / 32 by omega,
    show (32 * ((j 1).val / 32) + k.val) % 32 = k.val by omega]

theorem pow4 (j : S32x256.Idx) :
    times (times c c) (times c c) j = skew4 s (8 * g + (j 1).val / 32) (j 0).val ((j 1).val % 32) := by
  have h0 : (j 0).val < 32 := (j 0).isLt
  have h1 : (j 1).val < 256 := (j 1).isLt
  rw [times_apply]
  refine Finset.sum_congr rfl fun k _ => ?_
  have hk := k.isLt
  rw [at2_mk (times c c) (fun i l => skew2 s (8 * g + l / 32) i (l % 32)) (pow2 s g c hc) _ _ h0 (by omega),
    at2_mk (times c c) (fun i l => skew2 s (8 * g + l / 32) i (l % 32)) (pow2 s g c hc) _ _ hk h1]
  show skew2 s (8 * g + (32 * ((j 1).val / 32) + k.val) / 32) (j 0).val ((32 * ((j 1).val / 32) + k.val) % 32)
    * skew2 s (8 * g + (j 1).val / 32) k.val ((j 1).val % 32) = _
  rw [show (32 * ((j 1).val / 32) + k.val) / 32 = (j 1).val / 32 by omega,
    show (32 * ((j 1).val / 32) + k.val) % 32 = k.val by omega]

theorem powers_apply (j : S32x256.Idx) : powers c j = rot s (8 * g + (j 1).val / 32) (j 0).val ((j 1).val % 32) := by
  show two * (((c j + times c c j) + times (times c c) c j) + times (times c c) (times c c) j) = _
  rw [hc j, pow2 s g c hc j, pow3 s g c hc j, pow4 s g c hc j]
  rfl

end

/-! ## The blocks side by side -/

/-- The lane's block of 32, on the 128 lanes of a block of rows. -/
def laneBlk32 : IVec S32x128 32 := fun j => floorDiv (iota .tc S32x128 32 [1] iota_S32x128_d1_w32 j) 32#32

/-- Four blocks, each moved to its own 32 lanes. -/
def quad (b0 b1 b2 b3 : FVec Ideal S32x128 .f32) : FVec Ideal S32x128 .f32 := fun j =>
  Scalar.select (IntOp.cmpi .eq (laneBlk32 j) 3#32) (dynamicRotate 1 96#32 none b3 rotates_S32x128_d1 j)
    (Scalar.select (IntOp.cmpi .eq (laneBlk32 j) 2#32) (dynamicRotate 1 64#32 none b2 rotates_S32x128_d1 j)
      (Scalar.select (IntOp.cmpi .eq (laneBlk32 j) 1#32) (dynamicRotate 1 32#32 none b1 rotates_S32x128_d1 j) (b0 j)))

theorem moved (x : FVec Ideal S32x128 .f32) (m : ℕ) (hm : m < 4) (j : S32x128.Idx) (h : (j 1).val / 32 = m) :
    dynamicRotate 1 (BitVec.ofNat 32 (32 * m)) none x rotates_S32x128_d1 j = at2 x (j 0).val ((j 1).val % 32) := by
  have h1 : (j 1).val < 128 := (j 1).isLt
  rw [dynamicRotate_apply (1 : Fin 2) _ _ rotates_S32x128_d1 j
    (ValueIdx.ix2 (j 0) ⟨(j 1).val % 32, by omega⟩ : S32x128.Idx) (by
      intro b
      match b with
      | ⟨0, _⟩ => rfl
      | ⟨1, _⟩ =>
        show (j 1).val % 32 = ((j 1).val + 128 - (BitVec.ofNat 32 (32 * m)).toNat % 128) % 128
        rw [BitVec.toNat_ofNat]
        omega)]
  exact eq_at2 x _ rfl rfl

theorem quad_apply (b0 b1 b2 b3 : FVec Ideal S32x128 .f32) (f : ℕ → ℕ → ℕ → EReal)
    (h0 : ∀ i l, i < 32 → l < 32 → at2 b0 i l = f 0 i l) (h1 : ∀ i l, i < 32 → l < 32 → at2 b1 i l = f 1 i l)
    (h2 : ∀ i l, i < 32 → l < 32 → at2 b2 i l = f 2 i l) (h3 : ∀ i l, i < 32 → l < 32 → at2 b3 i l = f 3 i l)
    (j : S32x128.Idx) : quad b0 b1 b2 b3 j = f ((j 1).val / 32) (j 0).val ((j 1).val % 32) := by
  have hj0 : (j 0).val < 32 := (j 0).isLt
  have hj1 : (j 1).val < 128 := (j 1).isLt
  have hm : (j 1).val % 32 < 32 := Nat.mod_lt _ (by decide)
  unfold quad laneBlk32
  rw [lane_word, block_word _ (by omega), select_decide _ _ (eq_word ((j 1).val / 32) 3 (by omega) (by decide)),
    select_decide _ _ (eq_word ((j 1).val / 32) 2 (by omega) (by decide)),
    select_decide _ _ (eq_word ((j 1).val / 32) 1 (by omega) (by decide))]
  split
  · rename_i h
    exact (moved b3 3 (by decide) j h).trans ((h3 _ _ hj0 hm).trans (by rw [h]))
  · split
    · rename_i h
      exact (moved b2 2 (by decide) j h).trans ((h2 _ _ hj0 hm).trans (by rw [h]))
    · split
      · rename_i h
        exact (moved b1 1 (by decide) j h).trans ((h1 _ _ hj0 hm).trans (by rw [h]))
      · have h : (j 1).val / 32 = 0 := by omega
        have h' : (j 1).val % 32 = (j 1).val := by omega
        rw [eq_at2 b0 j rfl rfl, h, h', h0 _ _ hj0 (by omega)]

/-- Block `n`, read back from the scratch array's stores. -/
theorem spot_inb (n : Fin 48) : ∀ a, S32x128.size a = 0
    ∨ (![n.val, 0] : Fin 2 → Nat) a + (![56, 1] : Fin 2 → Nat) a * (S32x128.size a - 1) < S1792x128.size a := by
  intro a
  match a with
  | ⟨0, _⟩ => right; show n.val + 56 * 31 < 1792; omega
  | ⟨1, _⟩ => right; show 0 + 1 * 127 < 128; decide

variable (arg11 : Memref sig .tc .vmem S1792x128 .f32)

def block (L : List (View.Piece (Elt Ideal) S1792x128 .f32)) (n : Fin 48) : Vec Ideal S32x128 .f32 :=
  arg11.view.readCov L (⟨![n.val, 0], S32x128.size, ![56, 1], spot_inb n⟩ : LoadRect S1792x128)

theorem block_apply (s : Ten2 48 496) (n : Fin 48) (i l : ℕ) (hi : i < 32) (hl : l < 32) :
    at2 (block arg11 (rowPieces s) n) i l = skew s n.val i l := by
  unfold block
  rw [View.readCov_eq_canon']
  have e0 : (((⟨![n.val, 0], S32x128.size, ![56, 1], spot_inb n⟩ : LoadRect S1792x128).idx
      (ValueIdx.ix2 (Fin.ofNat 32 i) (Fin.ofNat 128 l) : S32x128.Idx)) 0).val = 56 * i + n.val := by
    refine (LoadRect.idx_apply ..).trans ?_
    show n.val + 56 * (i % 32) = _
    omega
  have e1 : (((⟨![n.val, 0], S32x128.size, ![56, 1], spot_inb n⟩ : LoadRect S1792x128).idx
      (ValueIdx.ix2 (Fin.ofNat 32 i) (Fin.ofNat 128 l) : S32x128.Idx)) 1).val = l := by
    refine (LoadRect.idx_apply ..).trans ?_
    show 0 + 1 * (l % 128) = _
    omega
  refine (rows_apply s _ n.val i n.isLt hi e0 (by rw [e1]; exact hl)).trans ?_
  rw [e1]

def nth (g : Fin 6) (k : Fin 8) : Fin 48 := ⟨8 * g.val + k.val, by omega⟩

/-- The group's eight blocks side by side. -/
def side (L : List (View.Piece (Elt Ideal) S1792x128 .f32)) (g : Fin 6) : FVec Ideal S32x256 .f32 :=
  concatenate S32x256 1
    [⟨S32x128, quad (block arg11 L (nth g 0)) (block arg11 L (nth g 1)) (block arg11 L (nth g 2)) (block arg11 L (nth g 3))⟩,
     ⟨S32x128, quad (block arg11 L (nth g 4)) (block arg11 L (nth g 5)) (block arg11 L (nth g 6)) (block arg11 L (nth g 7))⟩]
    concatenates_S32x128_S32x128_S32x256_d1

theorem side_apply (s : Ten2 48 496) (g : Fin 6) (j : S32x256.Idx) :
    side arg11 (rowPieces s) g j = skew s (8 * g.val + (j 1).val / 32) (j 0).val ((j 1).val % 32) := by
  have h1 : (j 1).val < 256 := (j 1).isLt
  unfold side
  by_cases h : (j 1).val < 128
  · rw [concatenate_pair_apply_left (t := S32x256) (1 : Fin 2) _ _ concatenates_S32x128_S32x128_S32x256_d1 j rfl
      (ValueIdx.ix2 (j 0) ⟨(j 1).val, h⟩ : S32x128.Idx) (by intro b; match b with
        | ⟨0, _⟩ => rfl
        | ⟨1, _⟩ => rfl)]
    exact quad_apply _ _ _ _ (fun m i l => skew s (8 * g.val + m) i l) (fun i l hi hl => block_apply arg11 s _ i l hi hl)
      (fun i l hi hl => block_apply arg11 s _ i l hi hl) (fun i l hi hl => block_apply arg11 s _ i l hi hl)
      (fun i l hi hl => block_apply arg11 s _ i l hi hl) _
  · rw [concatenate_pair_apply_right (t := S32x256) (1 : Fin 2) _ _ concatenates_S32x128_S32x128_S32x256_d1 j rfl rfl
      (ValueIdx.ix2 (j 0) ⟨(j 1).val - 128, by omega⟩ : S32x128.Idx) (by
        intro b hb
        match b, hb with
        | ⟨0, _⟩, _ => rfl
        | ⟨1, _⟩, hb => exact absurd rfl hb) (by show (j 1).val - 128 + 128 = (j 1).val; omega)]
    refine (quad_apply _ _ _ _ (fun m i l => skew s (8 * g.val + (4 + m)) i l) (fun i l hi hl => block_apply arg11 s _ i l hi hl)
      (fun i l hi hl => block_apply arg11 s _ i l hi hl) (fun i l hi hl => block_apply arg11 s _ i l hi hl)
      (fun i l hi hl => block_apply arg11 s _ i l hi hl) _).trans ?_
    show skew s (8 * g.val + (4 + ((j 1).val - 128) / 32)) (j 0).val (((j 1).val - 128) % 32) = _
    rw [show 4 + ((j 1).val - 128) / 32 = (j 1).val / 32 by omega, show ((j 1).val - 128) % 32 = (j 1).val % 32 by omega]

/-- The group's rotation minus the identity. -/
def turn (L : List (View.Piece (Elt Ideal) S1792x128 .f32)) (g : Fin 6) : FVec Ideal S32x256 .f32 := powers (side arg11 L g)

theorem turn_apply (s : Ten2 48 496) (g : Fin 6) (j : S32x256.Idx) :
    turn arg11 (rowPieces s) g j = rot s (8 * g.val + (j 1).val / 32) (j 0).val ((j 1).val % 32) :=
  powers_apply s g.val _ (side_apply arg11 s g) j

/-! ## The rotation's blocks, stored -/

def deltaPlace (k : Fin 48) : Fin 2 → ℕ := ![32 * (47 - k.val), 0]

theorem deltaPlace_inb (k : Fin 48) : ∀ a, deltaPlace k a + S32x32.size a ≤ S1536x32.size a := by
  intro a
  match a with
  | ⟨0, _⟩ => show 32 * (47 - k.val) + 32 ≤ 1536; omega
  | ⟨1, _⟩ => show 0 + 32 ≤ 32; omega

/-- Half a group. -/
def halfOf (d : FVec Ideal S32x256 .f32) (h : ℕ) : FVec Ideal S32x128 .f32 :=
  if h = 0 then extractStridedSlice S32x128 ![0, 0] d slices_S32x256_o0_0_S32x128
  else extractStridedSlice S32x128 ![0, 128] d slices_S32x256_o0_128_S32x128

/-- A block out of its half. -/
def blockOut (d : FVec Ideal S32x128 .f32) (m : ℕ) : FVec Ideal S32x32 .bf16 :=
  if m = 0 then truncf .bf16 (extractStridedSlice S32x32 ![0, 0] d slices_S32x128_o0_0_S32x32) bitsLt_bf16_f32
  else truncf .bf16 (extractStridedSlice S32x32 ![0, 0]
    (dynamicRotate 1 (BitVec.ofNat 32 (128 - 32 * m)) none d rotates_S32x128_d1) slices_S32x128_o0_0_S32x32) bitsLt_bf16_f32

def deltaPayload (L : List (View.Piece (Elt Ideal) S1792x128 .f32)) (k : Fin 48) : FVec Ideal S32x32 .bf16 :=
  blockOut (halfOf (turn arg11 L ⟨(47 - k.val) / 8, by omega⟩) ((47 - k.val) % 8 / 4)) ((47 - k.val) % 4)

/-- The 48 stores, last first. -/
def deltaPieces (L : List (View.Piece (Elt Ideal) S1792x128 .f32)) : List (View.Piece (Elt Ideal) S1536x32 .bf16) :=
  List.ofFn fun k : Fin 48 => ⟨Rect.unit (s := S1536x32) (deltaPlace k) S32x32.size (deltaPlace_inb k), deltaPayload arg11 L k⟩

theorem halfOf_apply (d : FVec Ideal S32x256 .f32) (h : ℕ) (hh : h < 2) (j : S32x128.Idx) :
    halfOf d h j = at2 d (j 0).val (128 * h + (j 1).val) := by
  have h1 : (j 1).val < 128 := (j 1).isLt
  unfold halfOf
  split
  · rename_i e; subst e
    rw [extractStridedSlice_apply ![0, 0] d slices_S32x256_o0_0_S32x128 j
      (ValueIdx.ix2 (j 0) ⟨(j 1).val, by omega⟩ : S32x256.Idx) (by intro a; match a with
        | ⟨0, _⟩ => exact (Nat.zero_add _).symm
        | ⟨1, _⟩ => exact (Nat.zero_add _).symm)]
    exact eq_at2 d _ rfl (by show (j 1).val = 128 * 0 + (j 1).val; omega)
  · obtain rfl : h = 1 := by omega
    rw [extractStridedSlice_apply ![0, 128] d slices_S32x256_o0_128_S32x128 j
      (ValueIdx.ix2 (j 0) ⟨128 + (j 1).val, by omega⟩ : S32x256.Idx) (by intro a; match a with
        | ⟨0, _⟩ => exact (Nat.zero_add _).symm
        | ⟨1, _⟩ => rfl)]
    exact eq_at2 d _ rfl rfl

theorem corner (d : FVec Ideal S32x128 .f32) (j : S32x32.Idx) :
    extractStridedSlice S32x32 ![0, 0] d slices_S32x128_o0_0_S32x32 j
      = d (ValueIdx.ix2 (j 0) ⟨(j 1).val, by have : (j 1).val < 32 := (j 1).isLt; omega⟩ : S32x128.Idx) :=
  extractStridedSlice_apply ![0, 0] d slices_S32x128_o0_0_S32x32 j _ (by intro a; match a with
    | ⟨0, _⟩ => exact (Nat.zero_add _).symm
    | ⟨1, _⟩ => exact (Nat.zero_add _).symm)

theorem blockOut_apply (d : FVec Ideal S32x128 .f32) (m : ℕ) (hm : m < 4) (j : S32x32.Idx) :
    blockOut d m j = at2 d (j 0).val (32 * m + (j 1).val) := by
  have h1 : (j 1).val < 32 := (j 1).isLt
  unfold blockOut
  split
  · rename_i e; subst e
    show extractStridedSlice S32x32 ![0, 0] d slices_S32x128_o0_0_S32x32 j = _
    rw [corner]
    exact eq_at2 d _ rfl (by show (j 1).val = 32 * 0 + (j 1).val; omega)
  · show extractStridedSlice S32x32 ![0, 0] (dynamicRotate 1 _ none d rotates_S32x128_d1) slices_S32x128_o0_0_S32x32 j = _
    rw [corner, dynamicRotate_apply (1 : Fin 2) _ d rotates_S32x128_d1 _
      (ValueIdx.ix2 (j 0) ⟨32 * m + (j 1).val, by omega⟩ : S32x128.Idx) (by
        intro b
        match b with
        | ⟨0, _⟩ => rfl
        | ⟨1, _⟩ =>
          show 32 * m + (j 1).val = ((j 1).val + 128 - (BitVec.ofNat 32 (128 - 32 * m)).toNat % 128) % 128
          rw [BitVec.toNat_ofNat]
          omega)]
    exact eq_at2 d _ rfl rfl

theorem delta_apply (s : Ten2 48 496) (y : S1536x32.Idx) :
    View.canon (deltaPieces arg11 (rowPieces s)) y = rot s ((y 0).val / 32) ((y 0).val % 32) (y 1).val := by
  have y0 : (y 0).val < 1536 := (y 0).isLt
  have y1 : (y 1).val < 32 := (y 1).isLt
  refine View.canon_ofFn_unit_eq_of_forall (S := S1536x32) (Val := Elt Ideal) (e := .bf16) deltaPlace S32x32.size deltaPlace_inb
    (deltaPayload arg11 (rowPieces s)) y _ ⟨⟨47 - (y 0).val / 32, by omega⟩, fun a => ?_⟩ ?_
  · match a with
    | ⟨0, _⟩ => show 32 * (47 - (47 - (y 0).val / 32)) ≤ (y 0).val ∧ (y 0).val < 32 * (47 - (47 - (y 0).val / 32)) + 32; omega
    | ⟨1, _⟩ => show 0 ≤ (y 1).val ∧ (y 1).val < 0 + 32; omega
  · intro k x hx
    have x0 : (x 0).val < 32 := (x 0).isLt
    have x1 : (x 1).val < 32 := (x 1).isLt
    have e0 : (y 0).val = 32 * (47 - k.val) + (x 0).val := hx 0
    have e1 : (y 1).val = 0 + (x 1).val := hx 1
    unfold deltaPayload
    rw [blockOut_apply _ _ (by omega),
      at2_mk (halfOf _ _) (fun i l => at2 (turn arg11 (rowPieces s) ⟨(47 - k.val) / 8, by omega⟩) i (128 * ((47 - k.val) % 8 / 4) + l))
        (halfOf_apply _ _ (by omega)) _ _ x0 (by omega),
      at2_mk (turn arg11 (rowPieces s) ⟨(47 - k.val) / 8, by omega⟩)
        (fun i l => rot s (8 * ((47 - k.val) / 8) + l / 32) i (l % 32)) (turn_apply arg11 s _) _ _ x0 (by omega)]
    show rot s (8 * ((47 - k.val) / 8) + (128 * ((47 - k.val) % 8 / 4) + (32 * ((47 - k.val) % 4) + (x 1).val)) / 32) (x 0).val
      ((128 * ((47 - k.val) % 8 / 4) + (32 * ((47 - k.val) % 4) + (x 1).val)) % 32) = _
    congr 1 <;> omega

end Cert.KernelIdeal.Value

end
-- ==== Proof.Value.Turned.lean ====
/- The rotated activations in the kernel: a group of 256 channels is the channels permuted plus their product with the permuted
   rotation, and the permutation puts the even channels of the group before the odd ones. -/
module

public import proofs.«01_k».proof.Proof.Value.Group
public import Idealize.ShloMosaic.Lib.IdealHost

@[expose] public section

set_option maxRecDepth 16384

noncomputable section

namespace Cert.KernelIdeal.Value

open Cert.KernelIdeal Cert.KernelIdeal.Gen Cert.Spec
open Idealize.ShloMosaic
open scoped BigOperators

/-! ## The channel of a lane -/

/-- The channel lane `l` takes: even channels first. -/
def chan (l : ℕ) : ℕ := 2 * (l % 128) + l / 128

theorem chan_lt (l : ℕ) (hl : l < 256) : chan l < 256 := by unfold chan; omega

def chanWord (l : BitVec 32) : BitVec 32 := IntOp.addi (IntOp.muli 2#32 (floorMod l 128#32)) (floorDiv l 128#32)

theorem chanWord_eq (l : ℕ) (hl : l < 256) : chanWord (BitVec.ofNat 32 l) = BitVec.ofNat 32 (chan l) := by
  have h : ∀ l : Fin 256, chanWord (BitVec.ofNat 32 l.val) = BitVec.ofNat 32 (2 * (l.val % 128) + l.val / 128) := by decide +kernel
  exact h ⟨l, hl⟩

/-- The place a lane of a half takes from, in the two halves laid end to end. -/
def spotWord (l f : BitVec 32) : BitVec 32 := wrap (IntOp.andi (IntOp.addi (IntOp.muli 2#32 l) f) 127#32)

theorem spotWord_eq (l f : ℕ) (hl : l < 128) (hf : f < 2) :
    spotWord (BitVec.ofNat 32 l) (BitVec.ofNat 32 f) = BitVec.ofNat 32 ((2 * l + f) % 128) := by
  have h : ∀ (l : Fin 128) (f : Fin 2), spotWord (BitVec.ofNat 32 l.val) (BitVec.ofNat 32 f.val)
      = BitVec.ofNat 32 ((2 * l.val + f.val) % 128) := by decide +kernel
  exact h ⟨l, hl⟩ ⟨f, hf⟩

theorem near_word (l : ℕ) (hl : l < 128) : IntOp.cmpi .slt (BitVec.ofNat 32 l) 64#32 = if l < 64 then 1#1 else 0#1 := by
  have h : ∀ l : Fin 128, IntOp.cmpi .slt (BitVec.ofNat 32 l.val) 64#32 = if l.val < 64 then 1#1 else 0#1 := by decide +kernel
  exact h ⟨l, hl⟩

/-! ## The rotation with its columns permuted -/

/-- The columns of one parity. -/
def every2 (e : FVec Ideal S32x256 .f32) (f : BitVec 32) : FVec Ideal S32x128 .f32 := fun j =>
  Scalar.select (IntOp.cmpi .slt (iota .tc S32x128 32 [1] iota_S32x128_d1_w32 j) 64#32)
    (dynamicGather 1 (extractStridedSlice S32x128 ![0, 0] e slices_S32x256_o0_0_S32x128)
      (viaColumn fun j => spotWord (iota .tc S32x128 32 [1] iota_S32x128_d1_w32 j) f) j)
    (dynamicGather 1 (extractStridedSlice S32x128 ![0, 128] e slices_S32x256_o0_128_S32x128)
      (viaColumn fun j => spotWord (iota .tc S32x128 32 [1] iota_S32x128_d1_w32 j) f) j)

theorem every2_apply (e : FVec Ideal S32x256 .f32) (f : ℕ) (hf : f < 2) (j : S32x128.Idx) :
    every2 e (BitVec.ofNat 32 f) j = at2 e (j 0).val (2 * (j 1).val + f) := by
  have h1 : (j 1).val < 128 := (j 1).isLt
  unfold every2
  rw [viaColumn_eq, lane_word, select_decide _ _ (near_word _ h1)]
  have hw : spotWord (iota .tc S32x128 32 [1] iota_S32x128_d1_w32 j) (BitVec.ofNat 32 f) = BitVec.ofNat 32 ((2 * (j 1).val + f) % 128) := by
    rw [lane_word, spotWord_eq _ _ h1 hf]
  have hk : (2 * (j 1).val + f) % 128 < 128 := Nat.mod_lt _ (by decide)
  rw [gather_apply _ _ j _ hk hw, gather_apply _ _ j _ hk hw]
  split
  · rw [extractStridedSlice_apply ![0, 0] e slices_S32x256_o0_0_S32x128 _
      (ValueIdx.ix2 (j 0) ⟨2 * (j 1).val + f, by omega⟩ : S32x256.Idx) (by intro a; match a with
        | ⟨0, _⟩ => exact (Nat.zero_add _).symm
        | ⟨1, _⟩ => show 2 * (j 1).val + f = 0 + (2 * (j 1).val + f) % 128; omega)]
    exact eq_at2 e _ rfl rfl
  · rw [extractStridedSlice_apply ![0, 128] e slices_S32x256_o0_128_S32x128 _
      (ValueIdx.ix2 (j 0) ⟨2 * (j 1).val + f, by omega⟩ : S32x256.Idx) (by intro a; match a with
        | ⟨0, _⟩ => exact (Nat.zero_add _).symm
        | ⟨1, _⟩ => show 2 * (j 1).val + f = 128 + (2 * (j 1).val + f) % 128; omega)]
    exact eq_at2 e _ rfl rfl

def permuted (e : FVec Ideal S32x256 .f32) : FVec Ideal S32x256 .f32 :=
  concatenate S32x256 1 [⟨S32x128, every2 e 0#32⟩, ⟨S32x128, every2 e 1#32⟩] concatenates_S32x128_S32x128_S32x256_d1

theorem permuted_apply (e : FVec Ideal S32x256 .f32) (j : S32x256.Idx) : permuted e j = at2 e (j 0).val (chan (j 1).val) := by
  have h1 : (j 1).val < 256 := (j 1).isLt
  unfold permuted
  by_cases h : (j 1).val < 128
  · rw [concatenate_pair_apply_left (t := S32x256) (1 : Fin 2) _ _ concatenates_S32x128_S32x128_S32x256_d1 j rfl
      (ValueIdx.ix2 (j 0) ⟨(j 1).val, h⟩ : S32x128.Idx) (by intro b; match b with
        | ⟨0, _⟩ => rfl
        | ⟨1, _⟩ => rfl)]
    refine (every2_apply e 0 (by decide) _).trans ?_
    show at2 e (j 0).val (2 * (j 1).val + 0) = _
    unfold chan
    rw [show 2 * (j 1).val + 0 = 2 * ((j 1).val % 128) + (j 1).val / 128 by omega]
  · rw [concatenate_pair_apply_right (t := S32x256) (1 : Fin 2) _ _ concatenates_S32x128_S32x128_S32x256_d1 j rfl rfl
      (ValueIdx.ix2 (j 0) ⟨(j 1).val - 128, by omega⟩ : S32x128.Idx) (by
        intro b hb
        match b, hb with
        | ⟨0, _⟩, _ => rfl
        | ⟨1, _⟩, hb => exact absurd rfl hb) (by show (j 1).val - 128 + 128 = (j 1).val; omega)]
    refine (every2_apply e 1 (by decide) _).trans ?_
    show at2 e (j 0).val (2 * ((j 1).val - 128) + 1) = _
    unfold chan
    rw [show 2 * ((j 1).val - 128) + 1 = 2 * ((j 1).val % 128) + (j 1).val / 128 by omega]

/-! ## The two matrices of a group's products -/

/-- The permutation. -/
def perm : FVec Ideal S256x256 .bf16 :=
  truncf .bf16 (fun j : S256x256.Idx => Scalar.select (IntOp.cmpi .eq (iota .tc S256x256 32 [0] iota_S256x256_d0_w32 j)
      (chanWord (iota .tc S256x256 32 [1] iota_S256x256_d1_w32 j)))
    (Scalar.ofBits (F := Ideal) .f32 0x3F800000#32) (Scalar.ofBits (F := Ideal) .f32 0x00000000#32) : FVec Ideal S256x256 .f32)
    bitsLt_bf16_f32

theorem perm_apply (j : S256x256.Idx) : perm j = if (j 0).val = chan (j 1).val then 1 else 0 := by
  have h0 : (j 0).val < 256 := (j 0).isLt
  have h1 : (j 1).val < 256 := (j 1).isLt
  have hc := chan_lt _ h1
  show Scalar.select (IntOp.cmpi .eq (iota .tc S256x256 32 [0] iota_S256x256_d0_w32 j)
      (chanWord (iota .tc S256x256 32 [1] iota_S256x256_d1_w32 j))) (Ideal.ofBits .f32 0x3F800000#32) (Ideal.ofBits .f32 0x00000000#32) = _
  rw [row256, lane256, chanWord_eq _ h1, select_decide _ _ (eq_word _ _ (by omega) (by omega)), Ideal.ofBits_zero_f32,
    Ideal.ofBits_one_f32]

/-- The permuted rotation's blocks on their rows. -/
def spreadRot (d : FVec Ideal S32x256 .f32) : FVec Ideal S256x256 .bf16 :=
  truncf .bf16 (fun j : S256x256.Idx => Scalar.select (IntOp.cmpi .eq (floorDiv (iota .tc S256x256 32 [0] iota_S256x256_d0_w32 j) 32#32)
      (floorDiv (chanWord (iota .tc S256x256 32 [1] iota_S256x256_d1_w32 j)) 32#32))
    (stack (permuted (extf .f32 (truncf .bf16 d bitsLt_bf16_f32 : FVec Ideal S32x256 .bf16) bitsLt_bf16_f32)) j)
    (Scalar.ofBits (F := Ideal) .f32 0x00000000#32) : FVec Ideal S256x256 .f32) bitsLt_bf16_f32

theorem spreadRot_apply (d : FVec Ideal S32x256 .f32) (j : S256x256.Idx) :
    spreadRot d j = if (j 0).val / 32 = chan (j 1).val / 32 then at2 d ((j 0).val % 32) (chan (j 1).val) else 0 := by
  have h0 : (j 0).val < 256 := (j 0).isLt
  have h1 : (j 1).val < 256 := (j 1).isLt
  have hc := chan_lt _ h1
  show Scalar.select (IntOp.cmpi .eq (floorDiv (iota .tc S256x256 32 [0] iota_S256x256_d0_w32 j) 32#32)
      (floorDiv (chanWord (iota .tc S256x256 32 [1] iota_S256x256_d1_w32 j)) 32#32)) (stack (permuted d) j)
      (Ideal.ofBits .f32 0x00000000#32) = _
  rw [row256, lane256, chanWord_eq _ h1, block_word _ h0, block_word _ hc,
    select_decide _ _ (eq_word _ _ (by omega) (by omega)), Ideal.ofBits_zero_f32, stack_apply,
    at2_mk (permuted d) (fun i l => at2 d i (chan l)) (permuted_apply d) _ _ (Nat.mod_lt _ (by decide)) h1]

/-! ## A group's rotated activations -/

/-- A rotated activation: the activation, and its block's activations times the rotation's column. -/
def turned (x : Ten2 1536 1536) (s : Ten2 48 496) (m c : ℕ) : EReal :=
  at2 x m c + ∑ k : Fin 32, at2 x m (32 * (c / 32) + k.val) * rot s (c / 32) k.val (c % 32)

def groupTurned (x : Vec Ideal S1536x256 .bf16) (d : FVec Ideal S32x256 .f32) : FVec Ideal S1536x256 .bf16 :=
  truncf .bf16 (addf
    (matmul dot_S1536x256_S256x256_S1536x256_1_0_0_1_n_n none
      (shapeCast S1536x256 x shapeCasts_S1536x256_S1536x256 : FVec Ideal S1536x256 .bf16) perm
      (constant (F := Ideal) S1536x256 .f32 0x00000000#32))
    (matmul dot_S1536x256_S256x256_S1536x256_1_0_0_1_n_n none
      (shapeCast S1536x256 x shapeCasts_S1536x256_S1536x256 : FVec Ideal S1536x256 .bf16) (spreadRot d)
      (constant (F := Ideal) S1536x256 .f32 0x00000000#32))) bitsLt_bf16_f32

theorem product_apply (x : FVec Ideal S1536x256 .bf16) (y : FVec Ideal S256x256 .bf16) (j : S1536x256.Idx) :
    matmul dot_S1536x256_S256x256_S1536x256_1_0_0_1_n_n none x y (constant (F := Ideal) S1536x256 .f32 0x00000000#32) j
      = ∑ k : Fin 256, x (ValueIdx.ix2 (j 0) k : S1536x256.Idx) * y (ValueIdx.ix2 k (j 1) : S256x256.Idx) := by
  have ej : j = ValueIdx.ix2 (j 0) (j 1) := ValueIdx.eq_ix2 j
  have e : matmul dot_S1536x256_S256x256_S1536x256_1_0_0_1_n_n none x y (constant (F := Ideal) S1536x256 .f32 0x00000000#32) j
      = constant (F := Ideal) S1536x256 .f32 0x00000000#32 j
      + ∑ k : Fin 256, x (ValueIdx.ix2 (j 0) k : S1536x256.Idx) * y (ValueIdx.ix2 k (j 1) : S256x256.Idx) := by
    conv_lhs => rw [ej]
    refine (Ideal.matmul_plain_apply (M := 1536) (K := 256) (N := 256) none x y
      (constant (F := Ideal) S1536x256 .f32 0x00000000#32) (j 0) (j 1)).trans ?_
    rfl
  have z : constant (F := Ideal) S1536x256 .f32 0x00000000#32 j = 0 := Ideal.ofBits_zero_f32
  rw [e, z, zero_add]

theorem groupTurned_apply (x : Vec Ideal S1536x256 .bf16) (d : FVec Ideal S32x256 .f32) (j : S1536x256.Idx) :
    groupTurned x d j = at2 x (j 0).val (chan (j 1).val)
      + ∑ k : Fin 32, at2 x (j 0).val (32 * (chan (j 1).val / 32) + k.val) * at2 d k.val (chan (j 1).val) := by
  have h1 : (j 1).val < 256 := (j 1).isLt
  have hc := chan_lt _ h1
  unfold groupTurned
  rw [shapeCast_self]
  show matmul dot_S1536x256_S256x256_S1536x256_1_0_0_1_n_n none x perm (constant (F := Ideal) S1536x256 .f32 0x00000000#32) j
    + matmul dot_S1536x256_S256x256_S1536x256_1_0_0_1_n_n none x (spreadRot d) (constant (F := Ideal) S1536x256 .f32 0x00000000#32) j = _
  rw [product_apply, product_apply]
  congr 1
  · rw [Finset.sum_eq_single (⟨chan (j 1).val, hc⟩ : Fin 256)]
    · rw [perm_apply]
      show x _ * (if chan (j 1).val = chan (j 1).val then 1 else 0) = _
      rw [if_pos rfl, mul_one]
      exact eq_at2 x _ rfl rfl
    · intro k _ hk
      rw [perm_apply]
      show x _ * (if k.val = chan (j 1).val then 1 else 0) = _
      rw [if_neg (fun e => hk (Fin.ext e)), mul_zero]
    · intro h; exact absurd (Finset.mem_univ _) h
  · refine Eq.trans (Finset.sum_congr rfl fun k _ => ?_) ((sum_block
      (fun k => at2 x (j 0).val k * (if k / 32 = chan (j 1).val / 32 then at2 d (k % 32) (chan (j 1).val) else 0))
      (chan (j 1).val / 32) (by omega) (fun k _ hk => by rw [if_neg hk, mul_zero])).trans (Finset.sum_congr rfl fun k _ => ?_))
    · rw [spreadRot_apply, eq_at2 x (ValueIdx.ix2 (j 0) k : S1536x256.Idx) rfl rfl]
    · have hk := k.isLt
      show at2 x (j 0).val (32 * (chan (j 1).val / 32) + k.val)
        * (if (32 * (chan (j 1).val / 32) + k.val) / 32 = chan (j 1).val / 32
          then at2 d ((32 * (chan (j 1).val / 32) + k.val) % 32) (chan (j 1).val) else 0) = _
      rw [if_pos (by omega), show (32 * (chan (j 1).val / 32) + k.val) % 32 = k.val by omega]

/-! ## The stores -/

variable (arg1 : Memref sig .tc .vmem S1536x1536 .bf16) (harg1 : arg1.IsWhole) (x0 : Vec Ideal S1536x1536 .bf16)

theorem acts_inb (g : Fin 6) : ∀ a, (![0, 256 * g.val] : Fin 2 → ℕ) a + S1536x256.size a ≤ S1536x1536.size a := by
  intro a
  match a with
  | ⟨0, _⟩ => show 0 + 1536 ≤ 1536; omega
  | ⟨1, _⟩ => show 256 * g.val + 256 ≤ 1536; omega

/-- The activations of a group. -/
def acts (g : Fin 6) : Vec Ideal S1536x256 .bf16 :=
  View.readAt (Elt Ideal) arg1.view (Rect.unit (s := S1536x1536) ![0, 256 * g.val] S1536x256.size (acts_inb g)).toLoadRect
    (harg1.unread x0)

theorem acts_apply (g : Fin 6) (j : S1536x256.Idx) : acts arg1 harg1 x0 g j = at2 x0 (j 0).val (256 * g.val + (j 1).val) := by
  unfold acts
  rw [View.readAt_apply, harg1.read_unread]
  exact eq_at2 x0 _ ((Rect.idx_unit_val ..).trans (Nat.zero_add _)) (Rect.idx_unit_val ..)

variable (arg11 : Memref sig .tc .vmem S1792x128 .f32)

/-- Group `g`, rotated. -/
def groupOf (L : List (View.Piece (Elt Ideal) S1792x128 .f32)) (g : Fin 6) : FVec Ideal S1536x256 .bf16 :=
  groupTurned (acts arg1 harg1 x0 g) (turn arg11 L g)

theorem groupOf_apply (s : Ten2 48 496) (g : Fin 6) (j : S1536x256.Idx) :
    groupOf arg1 harg1 x0 arg11 (rowPieces s) g j = turned x0 s (j 0).val (256 * g.val + chan (j 1).val) := by
  have h0 : (j 0).val < 1536 := (j 0).isLt
  have h1 : (j 1).val < 256 := (j 1).isLt
  have hc := chan_lt _ h1
  unfold groupOf
  rw [groupTurned_apply, at2_mk (acts arg1 harg1 x0 g) (fun i l => at2 x0 i (256 * g.val + l)) (acts_apply arg1 harg1 x0 g) _ _ h0 hc]
  unfold turned
  congr 1
  refine Finset.sum_congr rfl fun k _ => ?_
  have hk := k.isLt
  rw [at2_mk (acts arg1 harg1 x0 g) (fun i l => at2 x0 i (256 * g.val + l)) (acts_apply arg1 harg1 x0 g) _ _ h0 (by omega),
    at2_mk (turn arg11 (rowPieces s) g) (fun i l => rot s (8 * g.val + l / 32) i (l % 32)) (turn_apply arg11 s g) _ _ hk hc]
  show at2 x0 _ (256 * g.val + (32 * (chan (j 1).val / 32) + k.val)) * rot s (8 * g.val + chan (j 1).val / 32) k.val (chan (j 1).val % 32) = _
  rw [show 256 * g.val + (32 * (chan (j 1).val / 32) + k.val) = 32 * ((256 * g.val + chan (j 1).val) / 32) + k.val by omega,
    show 8 * g.val + chan (j 1).val / 32 = (256 * g.val + chan (j 1).val) / 32 by omega,
    show chan (j 1).val % 32 = (256 * g.val + chan (j 1).val) % 32 by omega]

def xrPlace (k : Fin 12) : Fin 2 → ℕ := ![0, if k.val % 2 = 0 then 768 + 128 * (5 - k.val / 2) else 128 * (5 - k.val / 2)]

theorem xrPlace_inb (k : Fin 12) : ∀ a, xrPlace k a + S1536x128.size a ≤ S1536x1536.size a := by
  intro a
  match a with
  | ⟨0, _⟩ => show 0 + 1536 ≤ 1536; omega
  | ⟨1, _⟩ =>
    show (if k.val % 2 = 0 then 768 + 128 * (5 - k.val / 2) else 128 * (5 - k.val / 2)) + 128 ≤ 1536
    split <;> omega

def xrPayload (L : List (View.Piece (Elt Ideal) S1792x128 .f32)) (k : Fin 12) : FVec Ideal S1536x128 .bf16 :=
  if k.val % 2 = 0 then
    shapeCast S1536x128 (extractStridedSlice S1536x128 ![0, 128] (groupOf arg1 harg1 x0 arg11 L ⟨5 - k.val / 2, by omega⟩)
      slices_S1536x256_o0_128_S1536x128) shapeCasts_S1536x128_S1536x128
  else
    shapeCast S1536x128 (extractStridedSlice S1536x128 ![0, 0] (groupOf arg1 harg1 x0 arg11 L ⟨5 - k.val / 2, by omega⟩)
      slices_S1536x256_o0_0_S1536x128) shapeCasts_S1536x128_S1536x128

/-- The 12 stores, last first. -/
def xrPieces (L : List (View.Piece (Elt Ideal) S1792x128 .f32)) : List (View.Piece (Elt Ideal) S1536x1536 .bf16) :=
  List.ofFn fun k : Fin 12 => ⟨Rect.unit (s := S1536x1536) (xrPlace k) S1536x128.size (xrPlace_inb k), xrPayload arg1 harg1 x0 arg11 L k⟩

/-- The channel of a stored column: the even channels, then the odd ones. -/
def chanOf (c : ℕ) : ℕ := if c < 768 then 2 * c else 2 * (c - 768) + 1

theorem xrPayload_apply (s : Ten2 48 496) (k : Fin 12) (j : S1536x128.Idx) :
    xrPayload arg1 harg1 x0 arg11 (rowPieces s) k j = turned x0 s (j 0).val (chanOf (xrPlace k 1 + (j 1).val)) := by
  have h1 : (j 1).val < 128 := (j 1).isLt
  unfold xrPayload
  show _ = turned x0 s (j 0).val (chanOf ((if k.val % 2 = 0 then 768 + 128 * (5 - k.val / 2) else 128 * (5 - k.val / 2)) + (j 1).val))
  by_cases h : k.val % 2 = 0
  · rw [if_pos h, if_pos h, shapeCast_self, extractStridedSlice_apply ![0, 128] _ slices_S1536x256_o0_128_S1536x128 j
      (ValueIdx.ix2 (j 0) ⟨128 + (j 1).val, by omega⟩ : S1536x256.Idx) (by intro a; match a with
        | ⟨0, _⟩ => exact (Nat.zero_add _).symm
        | ⟨1, _⟩ => rfl), groupOf_apply]
    show turned x0 s (j 0).val (256 * (5 - k.val / 2) + chan (128 + (j 1).val)) = _
    unfold chan chanOf
    rw [if_neg (by omega)]
    congr 1
    omega
  · rw [if_neg h, if_neg h, shapeCast_self, extractStridedSlice_apply ![0, 0] _ slices_S1536x256_o0_0_S1536x128 j
      (ValueIdx.ix2 (j 0) ⟨(j 1).val, by omega⟩ : S1536x256.Idx) (by intro a; match a with
        | ⟨0, _⟩ => exact (Nat.zero_add _).symm
        | ⟨1, _⟩ => exact (Nat.zero_add _).symm), groupOf_apply]
    show turned x0 s (j 0).val (256 * (5 - k.val / 2) + chan (j 1).val) = _
    unfold chan chanOf
    rw [if_pos (by omega)]
    congr 1
    omega

theorem xr_apply (s : Ten2 48 496) (y : S1536x1536.Idx) :
    View.canon (xrPieces arg1 harg1 x0 arg11 (rowPieces s)) y = turned x0 s (y 0).val (chanOf (y 1).val) := by
  have y0 : (y 0).val < 1536 := (y 0).isLt
  have y1 : (y 1).val < 1536 := (y 1).isLt
  refine View.canon_ofFn_unit_eq_of_forall (S := S1536x1536) (Val := Elt Ideal) (e := .bf16) xrPlace S1536x128.size xrPlace_inb
    (xrPayload arg1 harg1 x0 arg11 (rowPieces s)) y _
    ⟨⟨if (y 1).val < 768 then 2 * (5 - (y 1).val / 128) + 1 else 2 * (5 - ((y 1).val - 768) / 128), by split <;> omega⟩, fun a => ?_⟩ ?_
  · match a with
    | ⟨0, _⟩ => show 0 ≤ (y 0).val ∧ (y 0).val < 0 + 1536; omega
    | ⟨1, _⟩ =>
      show (if (if (y 1).val < 768 then 2 * (5 - (y 1).val / 128) + 1 else 2 * (5 - ((y 1).val - 768) / 128)) % 2 = 0
          then 768 + 128 * (5 - (if (y 1).val < 768 then 2 * (5 - (y 1).val / 128) + 1 else 2 * (5 - ((y 1).val - 768) / 128)) / 2)
          else 128 * (5 - (if (y 1).val < 768 then 2 * (5 - (y 1).val / 128) + 1 else 2 * (5 - ((y 1).val - 768) / 128)) / 2)) ≤ (y 1).val
        ∧ (y 1).val < (if (if (y 1).val < 768 then 2 * (5 - (y 1).val / 128) + 1 else 2 * (5 - ((y 1).val - 768) / 128)) % 2 = 0
          then 768 + 128 * (5 - (if (y 1).val < 768 then 2 * (5 - (y 1).val / 128) + 1 else 2 * (5 - ((y 1).val - 768) / 128)) / 2)
          else 128 * (5 - (if (y 1).val < 768 then 2 * (5 - (y 1).val / 128) + 1 else 2 * (5 - ((y 1).val - 768) / 128)) / 2)) + 128
      by_cases h : (y 1).val < 768
      · rw [if_pos h, if_neg (by omega)]; omega
      · rw [if_neg h, if_pos (by omega)]; omega
  · intro k x hx
    have e0 : (y 0).val = 0 + (x 0).val := hx 0
    have e1 : (y 1).val = xrPlace k 1 + (x 1).val := hx 1
    rw [xrPayload_apply, e1, e0, Nat.zero_add]

end Cert.KernelIdeal.Value

end
-- ==== Proof.Value.Product.lean ====
/- The product of a point: five blocks of 256 columns, each the rotated activations times a weight tile's rows, plus the bias. -/
module

public import proofs.«01_k».proof.Proof.Value.Tile
public import proofs.«01_k».proof.Proof.Value.Turned

@[expose] public section

set_option maxRecDepth 16384

noncomputable section

namespace Cert.KernelIdeal.Value

open Cert.KernelIdeal Cert.KernelIdeal.Gen Cert.Spec
open Idealize.ShloMosaic
open scoped BigOperators

/-! ## A sum over the stored columns is one over the even channels and one over the odd ones -/

theorem sum_halves (f : ℕ → EReal) : ∑ c : Fin 1536, f c.val = (∑ c : Fin 768, f c.val) + ∑ c : Fin 768, f (768 + c.val) := by
  rw [Fin.sum_univ_eq_sum_range (fun k => f k) 1536, Fin.sum_univ_eq_sum_range (fun k => f k) 768,
    Fin.sum_univ_eq_sum_range (fun k => f (768 + k)) 768]
  exact Finset.sum_range_add f 768 768

/-! ## The product of the point -/

/-- Row `m`, column `n` of block `p` of the product. -/
def blockOutput (x : Ten2 1536 1536) (s : Ten2 48 496) (p : ℕ) (w : Vec Ideal S1280x768 .i8) (a : Vec Ideal S1280x24 .i8)
    (sc mn : Vec Ideal S840 .f32) (b : Vec Ideal S1x1280 .f32) (m n : ℕ) : EReal :=
  (∑ c : Fin 768, turned x s m (2 * c.val) * (nf4 ((at2 w n c.val).toNat % 16) * kscale p a sc mn n (c.val / 32)))
    + (∑ c : Fin 768, turned x s m (2 * c.val + 1) * (nf4 ((at2 w n c.val).toNat / 16) * kscale p a sc mn n (c.val / 32)))
    + at2 b 0 n

def yPayload (X : Vec Ideal S1536x1536 .bf16) (T : Vec Ideal S256x1536 .bf16) (b : Vec Ideal S1x256 .f32) : FVec Ideal S1536x256 .bf16 :=
  truncf .bf16 (addf
    (matmul (φ₁ := .bf16) (φ₂ := .bf16) dot_S1536x1536_S256x1536_S1536x256_1_1_0_0_n_n none X T
      (constant (F := Ideal) S1536x256 .f32 0x00000000#32))
    (broadcastTo S1536x256 (shapeCast S1x256 b shapeCasts_S1x256_S1x256) broadcasts_S1x256_S1536x256)) bitsLt_bf16_f32

theorem yPayload_apply (X : Vec Ideal S1536x1536 .bf16) (T : Vec Ideal S256x1536 .bf16) (b : Vec Ideal S1x256 .f32) (j : S1536x256.Idx) :
    yPayload X T b j = (∑ k : Fin 1536, at2 X (j 0).val k.val * at2 T (j 1).val k.val) + at2 b 0 (j 1).val := by
  have ej : j = ValueIdx.ix2 (j 0) (j 1) := ValueIdx.eq_ix2 j
  have e : matmul (φ₁ := .bf16) (φ₂ := .bf16) dot_S1536x1536_S256x1536_S1536x256_1_1_0_0_n_n none X T
        (constant (F := Ideal) S1536x256 .f32 0x00000000#32) j
      = constant (F := Ideal) S1536x256 .f32 0x00000000#32 j
      + ∑ k : Fin 1536, X (ValueIdx.ix2 (j 0) k : S1536x1536.Idx) * T (ValueIdx.ix2 (j 1) k : S256x1536.Idx) := by
    conv_lhs => rw [ej]
    refine (Ideal.matmul_transposedRhs_apply (M := 1536) (K := 1536) (N := 256) (φ₁ := .bf16) (φ₂ := .bf16) none X T
      (constant (F := Ideal) S1536x256 .f32 0x00000000#32) (j 0) (j 1)).trans ?_
    rfl
  have z : constant (F := Ideal) S1536x256 .f32 0x00000000#32 j = 0 := Ideal.ofBits_zero_f32
  unfold yPayload
  rw [shapeCast_self]
  show matmul (φ₁ := .bf16) (φ₂ := .bf16) dot_S1536x1536_S256x1536_S1536x256_1_1_0_0_n_n none X T
    (constant (F := Ideal) S1536x256 .f32 0x00000000#32) j + broadcastTo S1536x256 b broadcasts_S1x256_S1536x256 j = _
  rw [e, z, zero_add, broadcastTo_apply b broadcasts_S1x256_S1536x256 j (ValueIdx.ix2 (0 : Fin 1) (j 1) : S1x256.Idx) (by
    intro a
    match a with
    | ⟨0, _⟩ => rfl
    | ⟨1, _⟩ => rfl)]
  congr 1
  · refine Finset.sum_congr rfl fun k _ => ?_
    rw [eq_at2 X (ValueIdx.ix2 (j 0) k : S1536x1536.Idx) rfl rfl, eq_at2 T (ValueIdx.ix2 (j 1) k : S256x1536.Idx) rfl rfl]
  · exact eq_at2 b _ rfl rfl

def yPlace (k : Fin 5) : Fin 2 → ℕ := ![0, 256 * (4 - k.val)]

theorem yPlace_inb (k : Fin 5) : ∀ a, yPlace k a + S1536x256.size a ≤ S1536x1280.size a := by
  intro a
  match a with
  | ⟨0, _⟩ => show 0 + 1536 ≤ 1536; omega
  | ⟨1, _⟩ => show 256 * (4 - k.val) + 256 ≤ 1280; omega

def back (k : Fin 5) : Fin 5 := ⟨4 - k.val, by omega⟩

/-- The five stores, last first. -/
def yPieces (X : Vec Ideal S1536x1536 .bf16) (T : Fin 5 → Vec Ideal S256x1536 .bf16) (b : Fin 5 → Vec Ideal S1x256 .f32) :
    List (View.Piece (Elt Ideal) S1536x1280 .bf16) :=
  List.ofFn fun k : Fin 5 => ⟨Rect.unit (s := S1536x1280) (yPlace k) S1536x256.size (yPlace_inb k), yPayload X (T (back k)) (b (back k))⟩

variable (arg7 : Memref sig .tc .vmem S1x1280 .f32) (harg7 : arg7.IsWhole) (x6 : Vec Ideal S1x1280 .f32)

theorem bias_inb (t : Fin 5) : ∀ a, (![0, 256 * t.val] : Fin 2 → ℕ) a + S1x256.size a ≤ S1x1280.size a := by
  intro a
  match a with
  | ⟨0, _⟩ => show 0 + 1 ≤ 1; omega
  | ⟨1, _⟩ => show 256 * t.val + 256 ≤ 1280; omega

/-- The bias of a block. -/
def bias (t : Fin 5) : Vec Ideal S1x256 .f32 :=
  View.readAt (Elt Ideal) arg7.view (Rect.unit (s := S1x1280) ![0, 256 * t.val] S1x256.size (bias_inb t)).toLoadRect (harg7.unread x6)

theorem bias_apply (t : Fin 5) (j : S1x256.Idx) : bias arg7 harg7 x6 t j = at2 x6 (j 0).val (256 * t.val + (j 1).val) := by
  unfold bias
  rw [View.readAt_apply, harg7.read_unread]
  exact eq_at2 x6 _ ((Rect.idx_unit_val ..).trans (Nat.zero_add _)) (Rect.idx_unit_val ..)

theorem y_apply (x : Ten2 1536 1536) (s : Ten2 48 496) (p : ℕ) (w : Vec Ideal S1280x768 .i8) (a : Vec Ideal S1280x24 .i8)
    (sc mn : Vec Ideal S840 .f32) (X : Vec Ideal S1536x1536 .bf16) (T : Fin 5 → Vec Ideal S256x1536 .bf16)
    (hX : ∀ j, X j = turned x s (j 0).val (chanOf (j 1).val))
    (hT : ∀ t j, T t j = weight p w a sc mn (256 * t.val + (j 0).val) (j 1).val) (y : S1536x1280.Idx) :
    View.canon (yPieces X T (bias arg7 harg7 x6)) y = blockOutput x s p w a sc mn x6 (y 0).val (y 1).val := by
  have y0 : (y 0).val < 1536 := (y 0).isLt
  have y1 : (y 1).val < 1280 := (y 1).isLt
  refine View.canon_ofFn_unit_eq_of_forall (S := S1536x1280) (Val := Elt Ideal) (e := .bf16) yPlace S1536x256.size yPlace_inb
    (fun k => yPayload X (T (back k)) (bias arg7 harg7 x6 (back k))) y _ ⟨⟨4 - (y 1).val / 256, by omega⟩, fun a => ?_⟩ ?_
  · match a with
    | ⟨0, _⟩ => show 0 ≤ (y 0).val ∧ (y 0).val < 0 + 1536; omega
    | ⟨1, _⟩ =>
      show 256 * (4 - (4 - (y 1).val / 256)) ≤ (y 1).val ∧ (y 1).val < 256 * (4 - (4 - (y 1).val / 256)) + 256
      omega
  · intro k z hz
    have z0 : (z 0).val < 1536 := (z 0).isLt
    have z1 : (z 1).val < 256 := (z 1).isLt
    have e0 : (y 0).val = 0 + (z 0).val := hz 0
    have e1 : (y 1).val = 256 * (4 - k.val) + (z 1).val := hz 1
    rw [yPayload_apply, at2_mk (bias arg7 harg7 x6 (back k)) (fun i l => at2 x6 i (256 * (4 - k.val) + l))
      (bias_apply arg7 harg7 x6 (back k)) _ _ (by decide) z1]
    unfold blockOutput
    rw [e1, e0, Nat.zero_add]
    congr 1
    refine Eq.trans (Finset.sum_congr rfl fun c _ => ?_) ((sum_halves (fun c => turned x s (z 0).val (chanOf c)
      * weight p w a sc mn (256 * (4 - k.val) + (z 1).val) c)).trans ?_)
    · have hc := c.isLt
      rw [at2_mk X (fun i l => turned x s i (chanOf l)) hX _ _ z0 hc,
        at2_mk (T (back k)) (fun i l => weight p w a sc mn (256 * (4 - k.val) + i) l) (hT (back k)) _ _ z1 hc]
    · refine congrArg₂ (· + ·) ?_ ?_
      · refine Finset.sum_congr rfl fun c _ => ?_
        have hc := c.isLt
        show turned x s (z 0).val (chanOf c.val) * weight p w a sc mn (256 * (4 - k.val) + (z 1).val) c.val = _
        unfold chanOf weight
        rw [if_pos hc, if_pos hc]
      · refine Finset.sum_congr rfl fun c _ => ?_
        have hc := c.isLt
        show turned x s (z 0).val (chanOf (768 + c.val)) * weight p w a sc mn (256 * (4 - k.val) + (z 1).val) (768 + c.val) = _
        unfold chanOf weight
        rw [if_neg (by omega), if_neg (by omega), show 768 + c.val - 768 = c.val by omega]

end Cert.KernelIdeal.Value

end
-- ==== Proof.Value.Blocks.lean ====
/- The blocks of the seven operands at a point, read off the arguments. -/
module

public import proofs.«01_k».proof.Proof.Gen.KernelIdeal.Frame
public import proofs.«01_k».proof.Proof.Value.Product
public import Idealize.ShloMosaic.Lib.Claim
public import Idealize.ShloMosaic.Lib.Pipeline.ValueKit

@[expose] public section

set_option maxRecDepth 16384

noncomputable section

namespace Cert.KernelIdeal.Value

open Cert.KernelIdeal Cert.KernelIdeal.Gen Cert.Spec
open Idealize.ShloMosaic Idealize.ShloMosaic.TcCoe

variable (m : (ℓ : Loc nD τ sig) → Buf (Elt Ideal) ℓ) (c : Dev nD)

theorem coord (t : Fin cfg0.N) : ((grid0.coords t) 0).val = t.val :=
  (by decide +kernel : ∀ t : Fin grid0.N, ((grid0.coords t) 0).val = t.val) t

theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![0] := (by decide +kernel : ∀ t : Fin grid0.N, win0_4.index t = ![0])
theorem index5 : ∀ t : Fin cfg0.N, win0_5.index t = ![0] := (by decide +kernel : ∀ t : Fin grid0.N, win0_5.index t = ![0])
theorem index6 : ∀ t : Fin cfg0.N, win0_6.index t = ![0, t.val] := (by decide +kernel : ∀ t : Fin grid0.N, win0_6.index t = ![0, t.val])

theorem stacked {α : Type} (x : S6x256x1536.Idx → α) (h) (i : S1536x1536.Idx) :
    shapeCast S1536x1536 x h i = at3 x ((i 0).val / 256) ((i 0).val % 256) (i 1).val := by
  have i0 : (i 0).val < 1536 := (i 0).isLt
  have i1 : (i 1).val < 1536 := (i 1).isLt
  rw [shapeCast_apply x h i (ValueIdx.ix3 ⟨(i 0).val / 256, by omega⟩ ⟨(i 0).val % 256, by omega⟩ ⟨(i 1).val, i1⟩ : S6x256x1536.Idx) ?_]
  · exact eq_at3 _ _ rfl rfl rfl
  · rw [Shape.rowMajor_val_three, Shape.rowMajor_val_two]
    show ((i 0).val / 256 * 256 + (i 0).val % 256) * 1536 + (i 1).val = (i 0).val * 1536 + (i 1).val
    omega

theorem laid {α : Type} (x : S8960.Idx → α) (h) (i : S1x8960.Idx) : shapeCast S1x8960 x h i = at1 x (i 1).val := by
  have i0 : (i 0).val < 1 := (i 0).isLt
  have i1 : (i 1).val < 8960 := (i 1).isLt
  rw [shapeCast_apply x h i (ValueIdx.ix1 ⟨(i 1).val, i1⟩ : S8960.Idx) ?_]
  · exact eq_at1 _ _ rfl
  · rw [Shape.rowMajor_val_one, Shape.rowMajor_val_two]
    show (i 1).val = (i 0).val * 8960 + (i 1).val
    omega

theorem acts_block (t : Fin cfg0.N) (j : S1536x1536.Idx) :
    iblk m c 0 t j = at3 (m ((c : Thread nD τ).loc main_arg0)) ((j 0).val / 256) ((j 0).val % 256) (j 1).val := by
  have h0 : ((((cfg0.win 0).blk t).view.emb j : S1536x1536.Idx) 0).val = (j 0).val := by blk_simp [index0]
  have h1 : ((((cfg0.win 0).blk t).view.emb j : S1536x1536.Idx) 1).val = (j 1).val := by blk_simp [index0]
  show V m c main_v0 (((cfg0.win 0).blk t).view.emb j) = _
  entry_read
  refine (stacked _ _ _).trans ?_
  rw [h0, h1]

theorem packed_block (t : Fin cfg0.N) : iblk m c 1 t = m ((c : Thread nD τ).loc main_arg1) := by
  funext j
  show V m c main_arg1 (((cfg0.win 1).blk t).view.emb j) = _
  rw [V_main_arg1]
  congr 1
  funext a
  refine Fin.ext ?_
  match a with
  | ⟨0, _⟩ => blk_simp [index1]
  | ⟨1, _⟩ => blk_simp [index1]

theorem codes_block (t : Fin cfg0.N) (j : S1280x768.Idx) :
    iblk m c 2 t j = at2 (m ((c : Thread nD τ).loc main_arg2)) (1280 * t.val + (j 0).val) (j 1).val := by
  show V m c main_arg2 (((cfg0.win 2).blk t).view.emb j) = _
  rw [V_main_arg2]
  refine eq_at2 _ _ ?_ ?_
  · blk_simp [index2]
    omega
  · blk_simp [index2]

theorem levels_block (t : Fin cfg0.N) (j : S1280x24.Idx) :
    iblk m c 3 t j = at2 (m ((c : Thread nD τ).loc main_arg3)) (1280 * t.val + (j 0).val) (j 1).val := by
  show V m c main_arg3 (((cfg0.win 3).blk t).view.emb j) = _
  rw [V_main_arg3]
  refine eq_at2 _ _ ?_ ?_
  · blk_simp [index3]
    omega
  · blk_simp [index3]

theorem scales_block (t : Fin cfg0.N) : iblk m c 4 t = m ((c : Thread nD τ).loc main_arg4) := by
  funext j
  show V m c main_arg4 (((cfg0.win 4).blk t).view.emb j) = _
  rw [V_main_arg4]
  congr 1
  funext a
  refine Fin.ext ?_
  match a with
  | ⟨0, _⟩ => blk_simp [index4]

theorem means_block (t : Fin cfg0.N) : iblk m c 5 t = m ((c : Thread nD τ).loc main_arg5) := by
  funext j
  show V m c main_arg5 (((cfg0.win 5).blk t).view.emb j) = _
  rw [V_main_arg5]
  congr 1
  funext a
  refine Fin.ext ?_
  match a with
  | ⟨0, _⟩ => blk_simp [index5]

theorem bias_block (t : Fin cfg0.N) (j : S1x1280.Idx) :
    iblk m c 6 t j = at1 (m ((c : Thread nD τ).loc main_arg6)) (1280 * t.val + (j 1).val) := by
  have h1 : ((((cfg0.win 6).blk t).view.emb j : S1x8960.Idx) 1).val = 1280 * t.val + (j 1).val := by
    blk_simp [index6]
    omega
  show V m c main_v1 (((cfg0.win 6).blk t).view.emb j) = _
  entry_read
  refine (laid _ _ _).trans ?_
  rw [h1]

end Cert.KernelIdeal.Value

end
-- ==== Proof.Value.TilesA.lean ====
/- The blocks the body leaves in its five weight tiles, at the first point. -/
module

public import proofs.«01_k».proof.Proof.Value.Tile
public import proofs.«01_k».proof.Proof.Run.CaseA

@[expose] public section

set_option maxRecDepth 16384

noncomputable section

namespace Cert.KernelIdeal.Value

open Cert.KernelIdeal Cert.KernelIdeal.Gen Cert.KernelIdeal.Run Cert.Spec
open Idealize.ShloMosaic

variable (c : Dev nD) (i : grid0.Coords)
  (arg3 : Memref sig .tc .vmem S1280x768 .i8) (harg3 : arg3.IsWhole)
  (arg4 : Memref sig .tc .vmem S1280x24 .i8) (harg4 : arg4.IsWhole)
  (arg5 : Memref sig .tc .smem S840 .f32) (harg5 : arg5.IsWhole)
  (arg6 : Memref sig .tc .smem S840 .f32) (harg6 : arg6.IsWhole)
  (x2 : Vec Ideal S1280x768 .i8) (x3 : Vec Ideal S1280x24 .i8) (x4 x5 : Vec Ideal S840 .f32)

set_option maxHeartbeats 4000000 in
theorem tileA_0 : kernelRun0_A.sl.HS2_96 (F := Ideal) c i arg3 harg3 arg4 harg4 arg5 harg5 arg6 harg6 x2 x3 x4 x5
    = pieces i arg3 harg3 arg4 harg4 arg5 harg5 arg6 harg6 x2 x3 x4 x5 0 := rfl

set_option maxHeartbeats 4000000 in
theorem tileA_1 : kernelRun0_A.sl.HS3_96 (F := Ideal) c i arg3 harg3 arg4 harg4 arg5 harg5 arg6 harg6 x2 x3 x4 x5
    = pieces i arg3 harg3 arg4 harg4 arg5 harg5 arg6 harg6 x2 x3 x4 x5 1 := rfl

set_option maxHeartbeats 4000000 in
theorem tileA_2 : kernelRun0_A.sl.HS4_96 (F := Ideal) c i arg3 harg3 arg4 harg4 arg5 harg5 arg6 harg6 x2 x3 x4 x5
    = pieces i arg3 harg3 arg4 harg4 arg5 harg5 arg6 harg6 x2 x3 x4 x5 2 := rfl

set_option maxHeartbeats 4000000 in
theorem tileA_3 : kernelRun0_A.sl.HS5_96 (F := Ideal) c i arg3 harg3 arg4 harg4 arg5 harg5 arg6 harg6 x2 x3 x4 x5
    = pieces i arg3 harg3 arg4 harg4 arg5 harg5 arg6 harg6 x2 x3 x4 x5 3 := rfl

set_option maxHeartbeats 4000000 in
theorem tileA_4 : kernelRun0_A.sl.HS6_96 (F := Ideal) c i arg3 harg3 arg4 harg4 arg5 harg5 arg6 harg6 x2 x3 x4 x5
    = pieces i arg3 harg3 arg4 harg4 arg5 harg5 arg6 harg6 x2 x3 x4 x5 4 := rfl

end Cert.KernelIdeal.Value

end
-- ==== Proof.Value.RowsA.lean ====
/- The 32 stores of the first point that spread the strict upper triangles are the family of `Skew.lean`. -/
module

public import proofs.«01_k».proof.Proof.Value.Skew
public import proofs.«01_k».proof.Proof.Run.CaseA

@[expose] public section

set_option maxRecDepth 16384

noncomputable section

namespace Cert.KernelIdeal.Value

open Cert.KernelIdeal Cert.KernelIdeal.Gen Cert.KernelIdeal.Run Cert.Spec
open Idealize.ShloMosaic

variable (c : Dev nD) (arg2 : Memref sig .tc .vmem S48x496 .f32) (harg2 : arg2.IsWhole) (x1 : Vec Ideal S48x496 .f32)

set_option maxHeartbeats 4000000 in
theorem rowsA : kernelRun0_A.sl.HS1_32 (F := Ideal) c arg2 harg2 x1 = rowPieces (packed arg2 harg2 x1) := rfl

end Cert.KernelIdeal.Value

end
-- ==== Proof.Value.TurnedA.lean ====
/- The 12 stores of the first point that write the rotated activations are the family of `Turned.lean`. -/
module

public import proofs.«01_k».proof.Proof.Value.Turned
public import proofs.«01_k».proof.Proof.Value.RowsA

@[expose] public section

set_option maxRecDepth 16384

noncomputable section

namespace Cert.KernelIdeal.Value

open Cert.KernelIdeal Cert.KernelIdeal.Gen Cert.KernelIdeal.Run Cert.Spec
open Idealize.ShloMosaic

variable (c : Dev nD) (arg1 : Memref sig .tc .vmem S1536x1536 .bf16) (harg1 : arg1.IsWhole)
  (arg2 : Memref sig .tc .vmem S48x496 .f32) (harg2 : arg2.IsWhole) (arg11 : Memref sig .tc .vmem S1792x128 .f32)
  (x0 : Vec Ideal S1536x1536 .bf16) (x1 : Vec Ideal S48x496 .f32)

set_option maxHeartbeats 4000000 in
theorem turnedA : kernelRun0_A.sl.HS0_12 (F := Ideal) c arg1 harg1 arg2 harg2 arg11 x0 x1
    = xrPieces arg1 harg1 x0 arg11 (kernelRun0_A.sl.HS1_32 (F := Ideal) c arg2 harg2 x1) := rfl

end Cert.KernelIdeal.Value

end
-- ==== Proof.Value.DeltaA.lean ====
/- The 48 stores of the first point that write the rotation's blocks are the family of `Group.lean`. -/
module

public import proofs.«01_k».proof.Proof.Value.Group
public import proofs.«01_k».proof.Proof.Value.RowsA

@[expose] public section

set_option maxRecDepth 16384

noncomputable section

namespace Cert.KernelIdeal.Value

open Cert.KernelIdeal Cert.KernelIdeal.Gen Cert.KernelIdeal.Run Cert.Spec
open Idealize.ShloMosaic

variable (c : Dev nD) (i : grid0.Coords) (arg1 : Memref sig .tc .vmem S1536x1536 .bf16) (harg1 : arg1.IsWhole)
  (arg2 : Memref sig .tc .vmem S48x496 .f32) (harg2 : arg2.IsWhole)
  (arg3 : Memref sig .tc .vmem S1280x768 .i8) (harg3 : arg3.IsWhole)
  (arg4 : Memref sig .tc .vmem S1280x24 .i8) (harg4 : arg4.IsWhole)
  (arg5 : Memref sig .tc .smem S840 .f32) (harg5 : arg5.IsWhole)
  (arg6 : Memref sig .tc .smem S840 .f32) (harg6 : arg6.IsWhole)
  (arg7 : Memref sig .tc .vmem S1x1280 .f32) (harg7 : arg7.IsWhole)
  (arg8 : Memref sig .tc .vmem S1536x1280 .bf16) (harg8 : arg8.IsWhole)
  (arg9 : Memref sig .tc .vmem S1536x32 .bf16) (harg9 : arg9.IsWhole)
  (arg10 : Memref sig .tc .vmem S1536x1536 .bf16) (harg10 : arg10.IsWhole)
  (arg11 : Memref sig .tc .vmem S1792x128 .f32) (harg11 : arg11.IsWhole)
  (arg12 : Memref sig .tc .vmem S256x1536 .bf16) (harg12 : arg12.IsWhole)
  (arg13 : Memref sig .tc .vmem S256x1536 .bf16) (harg13 : arg13.IsWhole)
  (arg14 : Memref sig .tc .vmem S256x1536 .bf16) (harg14 : arg14.IsWhole)
  (arg15 : Memref sig .tc .vmem S256x1536 .bf16) (harg15 : arg15.IsWhole)
  (arg16 : Memref sig .tc .vmem S256x1536 .bf16) (harg16 : arg16.IsWhole) (hc0 : cond0_0 i)
  (x0 : Vec Ideal S1536x1536 .bf16) (x1 : Vec Ideal S48x496 .f32) (x2 : Vec Ideal S1280x768 .i8) (x3 : Vec Ideal S1280x24 .i8) (x4 : Vec Ideal S840 .f32) (x5 : Vec Ideal S840 .f32) (x6 : Vec Ideal S1x1280 .f32)

set_option maxHeartbeats 4000000 in
theorem deltaA : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).2.1
    = deltaPieces arg11 (kernelRun0_A.sl.HS1_32 (F := Ideal) c arg2 harg2 x1) := rfl

end Cert.KernelIdeal.Value

end
-- ==== Proof.Value.PointA.lean ====
/- What the first point leaves: its block of the product, the rotation, and the rotated activations. -/
module

public import proofs.«01_k».proof.Proof.Value.Product
public import proofs.«01_k».proof.Proof.Value.TilesA
public import proofs.«01_k».proof.Proof.Value.TurnedA
public import proofs.«01_k».proof.Proof.Value.DeltaA
public import proofs.«01_k».proof.Proof.Run.Frame

@[expose] public section

set_option maxRecDepth 16384

noncomputable section

namespace Cert.KernelIdeal.Value

open Cert.KernelIdeal Cert.KernelIdeal.Gen Cert.KernelIdeal.Run Cert.Spec
open Idealize.ShloMosaic

section
variable (c : Dev nD) (i : grid0.Coords)
  (arg3 : Memref sig .tc .vmem S1280x768 .i8) (harg3 : arg3.IsWhole)
  (arg4 : Memref sig .tc .vmem S1280x24 .i8) (harg4 : arg4.IsWhole)
  (arg5 : Memref sig .tc .smem S840 .f32) (harg5 : arg5.IsWhole)
  (arg6 : Memref sig .tc .smem S840 .f32) (harg6 : arg6.IsWhole)
  (arg12 arg13 arg14 arg15 arg16 : Memref sig .tc .vmem S256x1536 .bf16)
  (x2 : Vec Ideal S1280x768 .i8) (x3 : Vec Ideal S1280x24 .i8) (x4 x5 : Vec Ideal S840 .f32)

/-- The five tiles, read whole. -/
def tilesA : Fin 5 → Vec Ideal S256x1536 .bf16 := ![
  arg12.view.readCov (kernelRun0_A.sl.HS2_96 (F := Ideal) c i arg3 harg3 arg4 harg4 arg5 harg5 arg6 harg6 x2 x3 x4 x5)
    (Rect.unit (s := S256x1536) ![0, 0] S256x1536.size inb_S256x1536_S256x1536_0_0).toLoadRect,
  arg13.view.readCov (kernelRun0_A.sl.HS3_96 (F := Ideal) c i arg3 harg3 arg4 harg4 arg5 harg5 arg6 harg6 x2 x3 x4 x5)
    (Rect.unit (s := S256x1536) ![0, 0] S256x1536.size inb_S256x1536_S256x1536_0_0).toLoadRect,
  arg14.view.readCov (kernelRun0_A.sl.HS4_96 (F := Ideal) c i arg3 harg3 arg4 harg4 arg5 harg5 arg6 harg6 x2 x3 x4 x5)
    (Rect.unit (s := S256x1536) ![0, 0] S256x1536.size inb_S256x1536_S256x1536_0_0).toLoadRect,
  arg15.view.readCov (kernelRun0_A.sl.HS5_96 (F := Ideal) c i arg3 harg3 arg4 harg4 arg5 harg5 arg6 harg6 x2 x3 x4 x5)
    (Rect.unit (s := S256x1536) ![0, 0] S256x1536.size inb_S256x1536_S256x1536_0_0).toLoadRect,
  arg16.view.readCov (kernelRun0_A.sl.HS6_96 (F := Ideal) c i arg3 harg3 arg4 harg4 arg5 harg5 arg6 harg6 x2 x3 x4 x5)
    (Rect.unit (s := S256x1536) ![0, 0] S256x1536.size inb_S256x1536_S256x1536_0_0).toLoadRect]

theorem whole_tileA (L : List (View.Piece (Elt Ideal) S256x1536 .bf16)) (arg : Memref sig .tc .vmem S256x1536 .bf16) (t : Fin 5)
    (h : L = pieces i arg3 harg3 arg4 harg4 arg5 harg5 arg6 harg6 x2 x3 x4 x5 t) (j : S256x1536.Idx) :
    arg.view.readCov L (Rect.unit (s := S256x1536) ![0, 0] S256x1536.size inb_S256x1536_S256x1536_0_0).toLoadRect j
      = weight (i 0).val x2 x3 x4 x5 (256 * t.val + (j 0).val) (j 1).val := by
  rw [h, View.readCov_eq_canon']
  refine (tile_apply i arg3 harg3 arg4 harg4 arg5 harg5 arg6 harg6 x2 x3 x4 x5 t _).trans ?_
  rw [(Rect.idx_unit_val ..).trans (Nat.zero_add _), (Rect.idx_unit_val ..).trans (Nat.zero_add _)]

theorem tilesA_apply (t : Fin 5) (j : S256x1536.Idx) :
    tilesA c i arg3 harg3 arg4 harg4 arg5 harg5 arg6 harg6 arg12 arg13 arg14 arg15 arg16 x2 x3 x4 x5 t j
      = weight (i 0).val x2 x3 x4 x5 (256 * t.val + (j 0).val) (j 1).val := by
  match t with
  | 0 => exact whole_tileA i arg3 harg3 arg4 harg4 arg5 harg5 arg6 harg6 x2 x3 x4 x5 _ arg12 0 (tileA_0 c i arg3 harg3 arg4 harg4 arg5 harg5 arg6 harg6 x2 x3 x4 x5) j
  | 1 => exact whole_tileA i arg3 harg3 arg4 harg4 arg5 harg5 arg6 harg6 x2 x3 x4 x5 _ arg13 1 (tileA_1 c i arg3 harg3 arg4 harg4 arg5 harg5 arg6 harg6 x2 x3 x4 x5) j
  | 2 => exact whole_tileA i arg3 harg3 arg4 harg4 arg5 harg5 arg6 harg6 x2 x3 x4 x5 _ arg14 2 (tileA_2 c i arg3 harg3 arg4 harg4 arg5 harg5 arg6 harg6 x2 x3 x4 x5) j
  | 3 => exact whole_tileA i arg3 harg3 arg4 harg4 arg5 harg5 arg6 harg6 x2 x3 x4 x5 _ arg15 3 (tileA_3 c i arg3 harg3 arg4 harg4 arg5 harg5 arg6 harg6 x2 x3 x4 x5) j
  | 4 => exact whole_tileA i arg3 harg3 arg4 harg4 arg5 harg5 arg6 harg6 x2 x3 x4 x5 _ arg16 4 (tileA_4 c i arg3 harg3 arg4 harg4 arg5 harg5 arg6 harg6 x2 x3 x4 x5) j

end

section
variable (c : Dev nD) (i : grid0.Coords)
  (arg1 : Memref sig .tc .vmem S1536x1536 .bf16) (harg1 : arg1.IsWhole)
  (arg2 : Memref sig .tc .vmem S48x496 .f32) (harg2 : arg2.IsWhole)
  (arg3 : Memref sig .tc .vmem S1280x768 .i8) (harg3 : arg3.IsWhole)
  (arg4 : Memref sig .tc .vmem S1280x24 .i8) (harg4 : arg4.IsWhole)
  (arg5 : Memref sig .tc .smem S840 .f32) (harg5 : arg5.IsWhole)
  (arg6 : Memref sig .tc .smem S840 .f32) (harg6 : arg6.IsWhole)
  (arg7 : Memref sig .tc .vmem S1x1280 .f32) (harg7 : arg7.IsWhole)
  (arg8 : Memref sig .tc .vmem S1536x1280 .bf16) (harg8 : arg8.IsWhole)
  (arg9 : Memref sig .tc .vmem S1536x32 .bf16) (harg9 : arg9.IsWhole)
  (arg10 : Memref sig .tc .vmem S1536x1536 .bf16) (harg10 : arg10.IsWhole)
  (arg11 : Memref sig .tc .vmem S1792x128 .f32) (harg11 : arg11.IsWhole)
  (arg12 : Memref sig .tc .vmem S256x1536 .bf16) (harg12 : arg12.IsWhole)
  (arg13 : Memref sig .tc .vmem S256x1536 .bf16) (harg13 : arg13.IsWhole)
  (arg14 : Memref sig .tc .vmem S256x1536 .bf16) (harg14 : arg14.IsWhole)
  (arg15 : Memref sig .tc .vmem S256x1536 .bf16) (harg15 : arg15.IsWhole)
  (arg16 : Memref sig .tc .vmem S256x1536 .bf16) (harg16 : arg16.IsWhole) (hc0 : cond0_0 i)
  (x0 : Vec Ideal S1536x1536 .bf16) (x1 : Vec Ideal S48x496 .f32) (x2 : Vec Ideal S1280x768 .i8) (x3 : Vec Ideal S1280x24 .i8) (x4 : Vec Ideal S840 .f32) (x5 : Vec Ideal S840 .f32) (x6 : Vec Ideal S1x1280 .f32)

set_option maxHeartbeats 4000000 in
theorem productA : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).1
    = yPieces (arg10.view.readCov (kernelRun0_A.sl.HS0_12 (F := Ideal) c arg1 harg1 arg2 harg2 arg11 x0 x1)
        (Rect.unit (s := S1536x1536) ![0, 0] S1536x1536.size inb_S1536x1536_S1536x1536_0_0).toLoadRect)
      (tilesA c i arg3 harg3 arg4 harg4 arg5 harg5 arg6 harg6 arg12 arg13 arg14 arg15 arg16 x2 x3 x4 x5) (bias arg7 harg7 x6) := rfl

theorem carriedA : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).2.2.1
    = kernelRun0_A.sl.HS0_12 (F := Ideal) c arg1 harg1 arg2 harg2 arg11 x0 x1 := rfl

theorem xrA (y : S1536x1536.Idx) : View.canon (kernelRun0_A.sl.HS0_12 (F := Ideal) c arg1 harg1 arg2 harg2 arg11 x0 x1) y
    = turned x0 x1 (y 0).val (chanOf (y 1).val) := by
  rw [turnedA, rowsA, packed_eq]
  exact xr_apply arg1 harg1 x0 arg11 x1 y

theorem out0_A_7_apply (y : S1536x1280.Idx) : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 y
      = blockOutput x0 x1 (i 0).val x2 x3 x4 x5 x6 (y 0).val (y 1).val := by
  unfold out0_A_7
  rw [View.read_writes_junk_eq_canon, productA]
  refine y_apply arg7 harg7 x6 x0 x1 (i 0).val x2 x3 x4 x5 _ _ (fun j => ?_)
    (tilesA_apply c i arg3 harg3 arg4 harg4 arg5 harg5 arg6 harg6 arg12 arg13 arg14 arg15 arg16 x2 x3 x4 x5) y
  rw [View.readCov_eq_canon']
  refine (xrA c arg1 harg1 arg2 harg2 arg11 x0 x1 _).trans ?_
  rw [(Rect.idx_unit_val ..).trans (Nat.zero_add _), (Rect.idx_unit_val ..).trans (Nat.zero_add _)]

theorem out0_A_8_apply (y : S1536x32.Idx) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 y
      = rot x1 ((y 0).val / 32) ((y 0).val % 32) (y 1).val := by
  unfold out0_A_8
  rw [View.read_writes_junk_eq_canon, deltaA, rowsA, packed_eq]
  exact delta_apply arg11 x1 y

theorem sout0_A_0_apply (y : S1536x1536.Idx) : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 y
      = turned x0 x1 (y 0).val (chanOf (y 1).val) := by
  unfold sout0_A_0
  rw [View.read_writes_junk_eq_canon, carriedA]
  exact xrA c arg1 harg1 arg2 harg2 arg11 x0 x1 y

end

end Cert.KernelIdeal.Value

end
-- ==== Proof.Value.TilesB.lean ====
/- The blocks the body leaves in its five weight tiles, at a point after the first. -/
module

public import proofs.«01_k».proof.Proof.Value.Tile
public import proofs.«01_k».proof.Proof.Run.CaseB

@[expose] public section

set_option maxRecDepth 16384

noncomputable section

namespace Cert.KernelIdeal.Value

open Cert.KernelIdeal Cert.KernelIdeal.Gen Cert.KernelIdeal.Run Cert.Spec
open Idealize.ShloMosaic

variable (c : Dev nD) (i : grid0.Coords)
  (arg3 : Memref sig .tc .vmem S1280x768 .i8) (harg3 : arg3.IsWhole)
  (arg4 : Memref sig .tc .vmem S1280x24 .i8) (harg4 : arg4.IsWhole)
  (arg5 : Memref sig .tc .smem S840 .f32) (harg5 : arg5.IsWhole)
  (arg6 : Memref sig .tc .smem S840 .f32) (harg6 : arg6.IsWhole)
  (x2 : Vec Ideal S1280x768 .i8) (x3 : Vec Ideal S1280x24 .i8) (x4 x5 : Vec Ideal S840 .f32)

set_option maxHeartbeats 4000000 in
theorem tileB_0 : kernelRun0_B.sl.HS2_96 (F := Ideal) c i arg3 harg3 arg4 harg4 arg5 harg5 arg6 harg6 x2 x3 x4 x5
    = pieces i arg3 harg3 arg4 harg4 arg5 harg5 arg6 harg6 x2 x3 x4 x5 0 := rfl

set_option maxHeartbeats 4000000 in
theorem tileB_1 : kernelRun0_B.sl.HS3_96 (F := Ideal) c i arg3 harg3 arg4 harg4 arg5 harg5 arg6 harg6 x2 x3 x4 x5
    = pieces i arg3 harg3 arg4 harg4 arg5 harg5 arg6 harg6 x2 x3 x4 x5 1 := rfl

set_option maxHeartbeats 4000000 in
theorem tileB_2 : kernelRun0_B.sl.HS4_96 (F := Ideal) c i arg3 harg3 arg4 harg4 arg5 harg5 arg6 harg6 x2 x3 x4 x5
    = pieces i arg3 harg3 arg4 harg4 arg5 harg5 arg6 harg6 x2 x3 x4 x5 2 := rfl

set_option maxHeartbeats 4000000 in
theorem tileB_3 : kernelRun0_B.sl.HS5_96 (F := Ideal) c i arg3 harg3 arg4 harg4 arg5 harg5 arg6 harg6 x2 x3 x4 x5
    = pieces i arg3 harg3 arg4 harg4 arg5 harg5 arg6 harg6 x2 x3 x4 x5 3 := rfl

set_option maxHeartbeats 4000000 in
theorem tileB_4 : kernelRun0_B.sl.HS6_96 (F := Ideal) c i arg3 harg3 arg4 harg4 arg5 harg5 arg6 harg6 x2 x3 x4 x5
    = pieces i arg3 harg3 arg4 harg4 arg5 harg5 arg6 harg6 x2 x3 x4 x5 4 := rfl

end Cert.KernelIdeal.Value

end
-- ==== Proof.Value.PointB.lean ====
/- The block of the product a point after the first leaves. -/
module

public import proofs.«01_k».proof.Proof.Value.Product
public import proofs.«01_k».proof.Proof.Value.TilesB
public import proofs.«01_k».proof.Proof.Run.Frame

@[expose] public section

set_option maxRecDepth 16384

noncomputable section

namespace Cert.KernelIdeal.Value

open Cert.KernelIdeal Cert.KernelIdeal.Gen Cert.KernelIdeal.Run Cert.Spec
open Idealize.ShloMosaic

section
variable (c : Dev nD) (i : grid0.Coords)
  (arg3 : Memref sig .tc .vmem S1280x768 .i8) (harg3 : arg3.IsWhole)
  (arg4 : Memref sig .tc .vmem S1280x24 .i8) (harg4 : arg4.IsWhole)
  (arg5 : Memref sig .tc .smem S840 .f32) (harg5 : arg5.IsWhole)
  (arg6 : Memref sig .tc .smem S840 .f32) (harg6 : arg6.IsWhole)
  (arg12 arg13 arg14 arg15 arg16 : Memref sig .tc .vmem S256x1536 .bf16)
  (x2 : Vec Ideal S1280x768 .i8) (x3 : Vec Ideal S1280x24 .i8) (x4 x5 : Vec Ideal S840 .f32)

/-- The five tiles, read whole. -/
def tilesB : Fin 5 → Vec Ideal S256x1536 .bf16 := ![
  arg12.view.readCov (kernelRun0_B.sl.HS2_96 (F := Ideal) c i arg3 harg3 arg4 harg4 arg5 harg5 arg6 harg6 x2 x3 x4 x5)
    (Rect.unit (s := S256x1536) ![0, 0] S256x1536.size inb_S256x1536_S256x1536_0_0).toLoadRect,
  arg13.view.readCov (kernelRun0_B.sl.HS3_96 (F := Ideal) c i arg3 harg3 arg4 harg4 arg5 harg5 arg6 harg6 x2 x3 x4 x5)
    (Rect.unit (s := S256x1536) ![0, 0] S256x1536.size inb_S256x1536_S256x1536_0_0).toLoadRect,
  arg14.view.readCov (kernelRun0_B.sl.HS4_96 (F := Ideal) c i arg3 harg3 arg4 harg4 arg5 harg5 arg6 harg6 x2 x3 x4 x5)
    (Rect.unit (s := S256x1536) ![0, 0] S256x1536.size inb_S256x1536_S256x1536_0_0).toLoadRect,
  arg15.view.readCov (kernelRun0_B.sl.HS5_96 (F := Ideal) c i arg3 harg3 arg4 harg4 arg5 harg5 arg6 harg6 x2 x3 x4 x5)
    (Rect.unit (s := S256x1536) ![0, 0] S256x1536.size inb_S256x1536_S256x1536_0_0).toLoadRect,
  arg16.view.readCov (kernelRun0_B.sl.HS6_96 (F := Ideal) c i arg3 harg3 arg4 harg4 arg5 harg5 arg6 harg6 x2 x3 x4 x5)
    (Rect.unit (s := S256x1536) ![0, 0] S256x1536.size inb_S256x1536_S256x1536_0_0).toLoadRect]

theorem whole_tileB (L : List (View.Piece (Elt Ideal) S256x1536 .bf16)) (arg : Memref sig .tc .vmem S256x1536 .bf16) (t : Fin 5)
    (h : L = pieces i arg3 harg3 arg4 harg4 arg5 harg5 arg6 harg6 x2 x3 x4 x5 t) (j : S256x1536.Idx) :
    arg.view.readCov L (Rect.unit (s := S256x1536) ![0, 0] S256x1536.size inb_S256x1536_S256x1536_0_0).toLoadRect j
      = weight (i 0).val x2 x3 x4 x5 (256 * t.val + (j 0).val) (j 1).val := by
  rw [h, View.readCov_eq_canon']
  refine (tile_apply i arg3 harg3 arg4 harg4 arg5 harg5 arg6 harg6 x2 x3 x4 x5 t _).trans ?_
  rw [(Rect.idx_unit_val ..).trans (Nat.zero_add _), (Rect.idx_unit_val ..).trans (Nat.zero_add _)]

theorem tilesB_apply (t : Fin 5) (j : S256x1536.Idx) :
    tilesB c i arg3 harg3 arg4 harg4 arg5 harg5 arg6 harg6 arg12 arg13 arg14 arg15 arg16 x2 x3 x4 x5 t j
      = weight (i 0).val x2 x3 x4 x5 (256 * t.val + (j 0).val) (j 1).val := by
  match t with
  | 0 => exact whole_tileB i arg3 harg3 arg4 harg4 arg5 harg5 arg6 harg6 x2 x3 x4 x5 _ arg12 0 (tileB_0 c i arg3 harg3 arg4 harg4 arg5 harg5 arg6 harg6 x2 x3 x4 x5) j
  | 1 => exact whole_tileB i arg3 harg3 arg4 harg4 arg5 harg5 arg6 harg6 x2 x3 x4 x5 _ arg13 1 (tileB_1 c i arg3 harg3 arg4 harg4 arg5 harg5 arg6 harg6 x2 x3 x4 x5) j
  | 2 => exact whole_tileB i arg3 harg3 arg4 harg4 arg5 harg5 arg6 harg6 x2 x3 x4 x5 _ arg14 2 (tileB_2 c i arg3 harg3 arg4 harg4 arg5 harg5 arg6 harg6 x2 x3 x4 x5) j
  | 3 => exact whole_tileB i arg3 harg3 arg4 harg4 arg5 harg5 arg6 harg6 x2 x3 x4 x5 _ arg15 3 (tileB_3 c i arg3 harg3 arg4 harg4 arg5 harg5 arg6 harg6 x2 x3 x4 x5) j
  | 4 => exact whole_tileB i arg3 harg3 arg4 harg4 arg5 harg5 arg6 harg6 x2 x3 x4 x5 _ arg16 4 (tileB_4 c i arg3 harg3 arg4 harg4 arg5 harg5 arg6 harg6 x2 x3 x4 x5) j

end

section
variable (c : Dev nD) (i : grid0.Coords)
  (arg1 : Memref sig .tc .vmem S1536x1536 .bf16) (harg1 : arg1.IsWhole)
  (arg2 : Memref sig .tc .vmem S48x496 .f32) (harg2 : arg2.IsWhole)
  (arg3 : Memref sig .tc .vmem S1280x768 .i8) (harg3 : arg3.IsWhole)
  (arg4 : Memref sig .tc .vmem S1280x24 .i8) (harg4 : arg4.IsWhole)
  (arg5 : Memref sig .tc .smem S840 .f32) (harg5 : arg5.IsWhole)
  (arg6 : Memref sig .tc .smem S840 .f32) (harg6 : arg6.IsWhole)
  (arg7 : Memref sig .tc .vmem S1x1280 .f32) (harg7 : arg7.IsWhole)
  (arg8 : Memref sig .tc .vmem S1536x1280 .bf16) (harg8 : arg8.IsWhole)
  (arg9 : Memref sig .tc .vmem S1536x32 .bf16) (harg9 : arg9.IsWhole)
  (arg10 : Memref sig .tc .vmem S1536x1536 .bf16) (harg10 : arg10.IsWhole)
  (arg11 : Memref sig .tc .vmem S1792x128 .f32) (harg11 : arg11.IsWhole)
  (arg12 : Memref sig .tc .vmem S256x1536 .bf16) (harg12 : arg12.IsWhole)
  (arg13 : Memref sig .tc .vmem S256x1536 .bf16) (harg13 : arg13.IsWhole)
  (arg14 : Memref sig .tc .vmem S256x1536 .bf16) (harg14 : arg14.IsWhole)
  (arg15 : Memref sig .tc .vmem S256x1536 .bf16) (harg15 : arg15.IsWhole)
  (arg16 : Memref sig .tc .vmem S256x1536 .bf16) (harg16 : arg16.IsWhole) (hc0 : ¬cond0_0 i)
  (x0 : Vec Ideal S1536x1536 .bf16) (x1 : Vec Ideal S48x496 .f32) (x2 : Vec Ideal S1280x768 .i8) (x3 : Vec Ideal S1280x24 .i8) (x4 : Vec Ideal S840 .f32) (x5 : Vec Ideal S840 .f32) (x6 : Vec Ideal S1x1280 .f32) (xo8 : Vec Ideal S1536x32 .bf16) (xs0 : Vec Ideal S1536x1536 .bf16)

set_option maxHeartbeats 4000000 in
theorem productB : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xo8 xs0).1
    = yPieces (View.readAt (Elt Ideal) arg10.view (Rect.unit (s := S1536x1536) ![0, 0] S1536x1536.size inb_S1536x1536_S1536x1536_0_0).toLoadRect
        (harg10.unread xs0))
      (tilesB c i arg3 harg3 arg4 harg4 arg5 harg5 arg6 harg6 arg12 arg13 arg14 arg15 arg16 x2 x3 x4 x5) (bias arg7 harg7 x6) := rfl

theorem out0_B_7_apply (x : Ten2 1536 1536) (s : Ten2 48 496) (hX : ∀ j, xs0 j = turned x s (j 0).val (chanOf (j 1).val))
    (y : S1536x1280.Idx) : out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xo8 xs0 y
      = blockOutput x s (i 0).val x2 x3 x4 x5 x6 (y 0).val (y 1).val := by
  unfold out0_B_7
  rw [View.read_writes_junk_eq_canon, productB]
  refine y_apply arg7 harg7 x6 x s (i 0).val x2 x3 x4 x5 _ _ (fun j => ?_)
    (tilesB_apply c i arg3 harg3 arg4 harg4 arg5 harg5 arg6 harg6 arg12 arg13 arg14 arg15 arg16 x2 x3 x4 x5) y
  rw [View.readAt_apply, harg10.read_unread, hX]
  rw [(Rect.idx_unit_val ..).trans (Nat.zero_add _), (Rect.idx_unit_val ..).trans (Nat.zero_add _)]

end

end Cert.KernelIdeal.Value

end
-- ==== Proof.Value.Result.lean ====
/- The two results of a run, entry by entry: every entry of the first is the rotated activations times the dequantized
   weights plus the bias, every entry of the second is an entry of a block rotation minus the identity. -/
module

public import proofs.«01_k».proof.Proof.Run.Fold
public import proofs.«01_k».proof.Proof.Value.Blocks
public import proofs.«01_k».proof.Proof.Value.PointA
public import proofs.«01_k».proof.Proof.Value.PointB

@[expose] public section

set_option maxRecDepth 16384

noncomputable section

namespace Cert.KernelIdeal.Value

open Cert.KernelIdeal Cert.KernelIdeal.Gen Cert.KernelIdeal.Run Cert.Spec
open Idealize.ShloMosaic Idealize.ShloMosaic.TcCoe

/-- An entry of a block whose entries are known. -/
theorem at2_of {α : Type} {a b : ℕ} [NeZero a] [NeZero b] (x : (⟨2, ![a, b]⟩ : Shape).Idx → α) (f : ℕ → ℕ → α)
    (h : ∀ j, x j = f (j 0).val (j 1).val) (m n : ℕ) (hm : m < a) (hn : n < b) : at2 x m n = f m n := by
  unfold at2
  rw [h]
  show f (m % a) (n % b) = _
  rw [Nat.mod_eq_of_lt hm, Nat.mod_eq_of_lt hn]

section
variable (x : (⟨3, ![6, 256, 1536]⟩ : Shape).Idx → EReal) (s : Ten2 48 496) (w : (⟨2, ![8960, 768]⟩ : Shape).Idx → BitVec 8)
  (a : (⟨2, ![8960, 24]⟩ : Shape).Idx → BitVec 8) (sc mn : (⟨1, ![840]⟩ : Shape).Idx → EReal) (b : (⟨1, ![8960]⟩ : Shape).Idx → EReal)
  (x0 : Vec Ideal S1536x1536 .bf16) (hx : ∀ j, x0 j = at3 x ((j 0).val / 256) ((j 0).val % 256) (j 1).val)

include hx in
/-- The kernel's rotated channel is the specification's. -/
theorem turned_eq (m c : ℕ) (hm : m < 1536) (hc : c < 1536) : turned x0 s m c = xrot x s m c := by
  have e : ∀ c, c < 1536 → at2 x0 m c = at3 x (m / 256) (m % 256) c := fun c hc =>
    at2_of x0 (fun m c => at3 x (m / 256) (m % 256) c) hx m c hm hc
  unfold turned xrot
  refine congrArg₂ (· + ·) (e c hc) (Finset.sum_congr rfl fun k _ => ?_)
  have hk := k.isLt
  rw [e _ (by omega), mul_comm]

include hx in
/-- A block of 1280 outputs is a part of the specification's row. -/
theorem blockOutput_eq (p : ℕ) (w0 : Vec Ideal S1280x768 .i8) (hw : ∀ j, w0 j = at2 w (1280 * p + (j 0).val) (j 1).val)
    (a0 : Vec Ideal S1280x24 .i8) (ha : ∀ j, a0 j = at2 a (1280 * p + (j 0).val) (j 1).val)
    (b0 : Vec Ideal S1x1280 .f32) (hb : ∀ j, b0 j = at1 b (1280 * p + (j 1).val)) (m n : ℕ) (hm : m < 1536) (hn : n < 1280) :
    blockOutput x0 s p w0 a0 sc mn b0 m n = out x s w a sc mn b m (1280 * p + n) := by
  have ew : ∀ c, c < 768 → at2 w0 n c = at2 w (1280 * p + n) c := fun c hc =>
    at2_of w0 (fun n c => at2 w (1280 * p + n) c) hw n c hn hc
  have ek : ∀ g, g < 24 → kscale p a0 sc mn n g = scale a sc mn (1280 * p + n) g := fun g hg => by
    have e : at2 a0 n g = at2 a (1280 * p + n) g := at2_of a0 (fun n g => at2 a (1280 * p + n) g) ha n g hn hg
    have q : 120 * p + (24 * n + g) / 256 = (24 * (1280 * p + n) + g) / 256 := by omega
    unfold kscale scale
    rw [e, q]
  unfold blockOutput out lowCode highCode
  refine congrArg₂ (· + ·) (congrArg₂ (· + ·) ?_ ?_) (at2_of b0 (fun _ n => at1 b (1280 * p + n)) hb 0 n (by omega) hn)
  · refine Finset.sum_congr rfl fun c _ => ?_
    have hc := c.isLt
    rw [turned_eq x s x0 hx m _ hm (by omega), ew _ hc, ek _ (by omega)]
  · refine Finset.sum_congr rfl fun c _ => ?_
    have hc := c.isLt
    rw [turned_eq x s x0 hx m _ hm (by omega), ew _ hc, ek _ (by omega)]

end

theorem chanOf_lt (c : ℕ) (hc : c < 1536) : chanOf c < 1536 := by
  unfold chanOf
  split <;> omega

variable (m : (ℓ : Loc nD τ sig) → Buf (Elt Ideal) ℓ) (c : Dev nD)

/-- The first result as the specification has it, of the arguments of a run. -/
def resultOut (r o : ℕ) : EReal :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) r o

/-- The second result likewise: row `32 g + k` holds row `k` of block `g`. -/
def resultRot (r k : ℕ) : EReal := rot (m ((c : Thread nD τ).loc main_arg1)) (r / 32) (r % 32) k

/-- The kept activations: the specification's rotated ones, the even channels in front of the odd ones. -/
def kept (r k : ℕ) : EReal := xrot (m ((c : Thread nD τ).loc main_arg0)) (m ((c : Thread nD τ).loc main_arg1)) r (chanOf k)

theorem kept_eq (t : Fin cfg0.N) (j : S1536x1536.Idx) :
    turned (iblk m c 0 t) (m ((c : Thread nD τ).loc main_arg1)) (j 0).val (chanOf (j 1).val) = kept m c (j 0).val (j 1).val :=
  turned_eq _ _ _ (acts_block m c t) _ _ (j 0).isLt (chanOf_lt _ (j 1).isLt)

theorem block_eq (t : Fin cfg0.N) (y : S1536x1280.Idx) :
    blockOutput (iblk m c 0 t) (m ((c : Thread nD τ).loc main_arg1)) ((grid0.coords t) 0).val (iblk m c 2 t) (iblk m c 3 t)
        (iblk m c 4 t) (iblk m c 5 t) (iblk m c 6 t) (y 0).val (y 1).val
      = resultOut m c (y 0).val (1280 * t.val + (y 1).val) := by
  rw [scales_block m c t, means_block m c t, coord]
  exact blockOutput_eq _ _ _ _ _ _ _ _ (acts_block m c t) t.val _ (codes_block m c t) _ (levels_block m c t) _ (bias_block m c t)
    _ _ (y 0).isLt (y 1).isLt

/-- What a point leaves: its block of the first result, the second result, and the rotated activations for the points after it. -/
structure Left (n : ℕ) (o : Vec Ideal S1536x1280 .bf16 × Vec Ideal S1536x32 .bf16 × Vec Ideal S1536x1536 .bf16) : Prop where
  out : ∀ y, o.1 y = resultOut m c (y 0).val (1280 * n + (y 1).val)
  rot : ∀ y, o.2.1 y = resultRot m c (y 0).val (y 1).val
  kept : ∀ y, o.2.2 y = kept m c (y 0).val (y 1).val

theorem left_A (t : Fin cfg0.N) (h0 : t.val % 7 = 0) : Left m c t.val (outsAt0 m c t.val t.isLt) := by
  rw [outsAt0_A m c t h0]
  refine ⟨fun y => ?_, fun y => ?_, fun y => ?_⟩
  · dsimp only
    rw [out0_A_7_apply, packed_block m c t]
    exact block_eq m c t y
  · dsimp only
    rw [out0_A_8_apply, packed_block m c t]
    rfl
  · dsimp only
    rw [sout0_A_0_apply, packed_block m c t]
    exact kept_eq m c t y

theorem left_B (t : Fin cfg0.N) (h0 : ¬t.val % 7 = 0) (q : ℕ)
    (h : Left m c q (outsAt0 m c (t.val - 1) (Nat.lt_of_le_of_lt (Nat.sub_le _ _) t.isLt))) :
    Left m c t.val (outsAt0 m c t.val t.isLt) := by
  rw [outsAt0_B m c t h0]
  refine ⟨fun y => ?_, fun y => ?_, fun y => ?_⟩
  · dsimp only
    rw [out0_B_7_apply (x := iblk m c 0 t) (s := m ((c : Thread nD τ).loc main_arg1))
      (hX := fun j => (h.kept j).trans (kept_eq m c t j).symm)]
    exact block_eq m c t y
  · exact h.rot y
  · exact h.kept y

theorem left : ∀ (n : ℕ) (hn : n < cfg0.N), Left m c n (outsAt0 m c n hn)
  | 0, hn => left_A m c ⟨0, hn⟩ (Nat.zero_mod _)
  | n + 1, hn => left_B m c ⟨n + 1, hn⟩
      (by have := lt_of_lt_of_eq hn N_0; show ¬(n + 1) % 7 = 0; omega) n (left n (Nat.lt_of_succ_lt hn))

/-- The first result of a run. -/
theorem G7_apply (j : S1536x8960.Idx) : G7 m c j = resultOut m c (j 0).val (j 1).val := by
  have j0 : (j 0).val < 1536 := (j 0).isLt
  have j1 : (j 1).val < 8960 := (j 1).isLt
  have hp : pt7Of j = (j 1).val / 1280 := by
    show 7 * ((j 0).val / 1536 - 0) + 1 * ((j 1).val / 1280 - 0) = _
    omega
  have hlt : pt7Of j < cfg0.N := by rw [hp]; exact lt_of_lt_of_eq (by omega : _ < 7) N_0.symm
  unfold G7
  rw [dif_pos hlt, ← outsAt0_sweep m c _ hlt, (left m c _ hlt).out]
  show resultOut m c ((j 0).val % 1536) (1280 * pt7Of j + (j 1).val % 1280) = _
  rw [hp, Nat.mod_eq_of_lt j0, Nat.div_add_mod]

/-- The second result of a run. -/
theorem G8_apply (j : S1536x32.Idx) : G8 m c j = resultRot m c (j 0).val (j 1).val := by
  rw [G8_last, ← outsAt0_sweep m c 6 (lt_of_lt_of_eq (by decide) N_0.symm)]
  exact (left m c 6 _).rot j

end Cert.KernelIdeal.Value

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run.Fold
public import proofs.«01_k».proof.Proof.Run.Same
public import proofs.«01_k».proof.Proof.Value.RefRot
public import proofs.«01_k».proof.Proof.Value.RefOut
public import proofs.«01_k».proof.Proof.Value.Result
public import Idealize.ShloMosaic.Adequacy
public import Idealize.ShloMosaic.Init

@[expose] public section

noncomputable section

namespace Cert.Proof

open Idealize.ShloMosaic Idealize.SL.Sem Cert.Kernel

/-- The kernel runs, leaves its arguments and ends with every counter at zero. -/
theorem frame_kernel : Cert.quiescent_Kernel := Cert.Kernel.Run.frame

/-- So does its idealization. -/
theorem frame_ideal : Cert.quiescent_KernelIdeal := fun m ρ _ => Cert.KernelIdeal.Run.frame m ρ

/-- So does the reference, which has no semaphore. -/
theorem frame_reference : Cert.quiescent_ReferenceIdeal := by
  intro m ρ _
  exact (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The reference's first result is the specification of its arguments. -/
theorem reference_out (m : (ℓ : Loc Cert.ReferenceIdeal.nD Cert.ReferenceIdeal.τ Cert.ReferenceIdeal.sig) → Buf (Elt Ideal) ℓ)
    (c : Dev Cert.ReferenceIdeal.nD) (x s w a sc mn b)
    (h0 : m ((c.tc : Thread Cert.ReferenceIdeal.nD Cert.ReferenceIdeal.τ).loc Cert.ReferenceIdeal.main_arg0) = x)
    (h1 : m ((c.tc : Thread Cert.ReferenceIdeal.nD Cert.ReferenceIdeal.τ).loc Cert.ReferenceIdeal.main_arg1) = s)
    (h2 : m ((c.tc : Thread Cert.ReferenceIdeal.nD Cert.ReferenceIdeal.τ).loc Cert.ReferenceIdeal.main_arg2) = w)
    (h3 : m ((c.tc : Thread Cert.ReferenceIdeal.nD Cert.ReferenceIdeal.τ).loc Cert.ReferenceIdeal.main_arg3) = a)
    (h4 : m ((c.tc : Thread Cert.ReferenceIdeal.nD Cert.ReferenceIdeal.τ).loc Cert.ReferenceIdeal.main_arg4) = sc)
    (h5 : m ((c.tc : Thread Cert.ReferenceIdeal.nD Cert.ReferenceIdeal.τ).loc Cert.ReferenceIdeal.main_arg5) = mn)
    (h6 : m ((c.tc : Thread Cert.ReferenceIdeal.nD Cert.ReferenceIdeal.τ).loc Cert.ReferenceIdeal.main_arg6) = b)
    (j : Cert.ReferenceIdeal.S1536x8960.Idx) :
    Cert.ReferenceIdeal.Read.val_main_v244 (F := Ideal)
        (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3))
        (m ((c.tc : Thread Cert.ReferenceIdeal.nD Cert.ReferenceIdeal.τ).loc Cert.ReferenceIdeal.main_arg4))
        (m ((c.tc : Thread Cert.ReferenceIdeal.nD Cert.ReferenceIdeal.τ).loc Cert.ReferenceIdeal.main_arg5))
        (m ((c.tc : Thread Cert.ReferenceIdeal.nD Cert.ReferenceIdeal.τ).loc Cert.ReferenceIdeal.main_arg6)) j
      = Cert.Spec.out x s w a sc mn b (j 0).val (j 1).val := by
  rw [h0, h1, h2, h3, h4, h5, h6]
  exact Cert.ReferenceIdeal.RefValue.out_apply x s w a sc mn b j

/-- The idealized kernel and the reference end with equal results. -/
theorem equal_results : Cert.algebraic_KernelIdeal_ReferenceIdeal := by
  intro m ρ m' ρ' _ hargs
  refine ⟨fun c => Cert.KernelIdeal.Run.G7 m c, fun c => Cert.KernelIdeal.Run.G8 m c, Cert.KernelIdeal.Run.run m ρ,
    (θ_run Cert.ReferenceIdeal.defs _ _).mono (fun r h c => ?_) (Cert.ReferenceIdeal.Value.run (F := Ideal) m' ρ')⟩
  obtain ⟨h0, h1, h2, h3, h4, h5, h6⟩ := hargs c
  refine ⟨(h c).1.trans ((Cert.ReferenceIdeal.Read.val_main_v244_eq _).trans (funext fun j => ?_)),
    (h c).2.1.trans ((Cert.ReferenceIdeal.Read.val_main_v245_eq _).trans (funext fun j => ?_)), (h c).2.2⟩
  · refine Eq.trans ?_ (Cert.KernelIdeal.Value.G7_apply m c j).symm
    exact reference_out m' c _ _ _ _ _ _ _ h0 h1 h2 h3 h4 h5 h6 j
  · refine Eq.trans ?_ (Cert.KernelIdeal.Value.G8_apply m c j).symm
    refine (Cert.ReferenceIdeal.RefValue.delta_apply _ j).trans ?_
    exact congrArg (fun s => Cert.Spec.rot s ((j 0).val / 32) ((j 0).val % 32) (j 1).val) h1

theorem claim : Cert.Claim := ⟨Cert.Kernel.Gen.facts, Cert.KernelIdeal.Gen.facts, Cert.ReferenceIdeal.Gen.facts,
  frame_kernel, frame_ideal, frame_reference, trivial, equal_results⟩

end Cert.Proof

end
